-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![32768, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S8x1x1024 : Shape := ⟨3, ![8, 1, 1024]⟩
abbrev S8 : Shape := ⟨1, ![8]⟩
abbrev S_ : Shape := ⟨0, ![]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S1 : Shape := ⟨1, ![1]⟩
abbrev S1x1x1024 : Shape := ⟨3, ![1, 1, 1024]⟩
abbrev S511x1024 : Shape := ⟨2, ![511, 1024]⟩
abbrev S510x1024 : Shape := ⟨2, ![510, 1024]⟩
abbrev S508x1024 : Shape := ⟨2, ![508, 1024]⟩
abbrev S504x1024 : Shape := ⟨2, ![504, 1024]⟩
abbrev S496x1024 : Shape := ⟨2, ![496, 1024]⟩
abbrev S480x1024 : Shape := ⟨2, ![480, 1024]⟩
abbrev S448x1024 : Shape := ⟨2, ![448, 1024]⟩
abbrev S384x1024 : Shape := ⟨2, ![384, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S1x1024, .f32⟩
  | .local _ .vmem, ⟨3, _⟩ => ⟨S8x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_94 : BitVec 32 := 0#32
  let c0_i32_92 : BitVec 32 := 0#32
  let c1_i32_93 : BitVec 32 := 1#32
  let v204 : BitVec 32 := Scalar.muli c0_i32_92 c1_i32_93
  let v205 : BitVec 32 := Scalar.addi c0_i32_94 v204
  v205.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_94 : BitVec 32 := 0#32
  let c1_i32_92 : BitVec 32 := 1#32
  let c1_i32_93 : BitVec 32 := 1#32
  let v204 : BitVec 32 := Scalar.muli c1_i32_92 c1_i32_93
  let v205 : BitVec 32 := Scalar.addi c0_i32_94 v204
  v205.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_94 : BitVec 32 := 0#32
  let c2_i32_92 : BitVec 32 := 2#32
  let c1_i32_93 : BitVec 32 := 1#32
  let v204 : BitVec 32 := Scalar.muli c2_i32_92 c1_i32_93
  let v205 : BitVec 32 := Scalar.addi c0_i32_94 v204
  v205.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_94 : BitVec 32 := 0#32
  let c3_i32_92 : BitVec 32 := 3#32
  let c1_i32_93 : BitVec 32 := 1#32
  let v204 : BitVec 32 := Scalar.muli c3_i32_92 c1_i32_93
  let v205 : BitVec 32 := Scalar.addi c0_i32_94 v204
  v205.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_94 : BitVec 32 := 0#32
  let c4_i32_92 : BitVec 32 := 4#32
  let c1_i32_93 : BitVec 32 := 1#32
  let v204 : BitVec 32 := Scalar.muli c4_i32_92 c1_i32_93
  let v205 : BitVec 32 := Scalar.addi c0_i32_94 v204
  v205.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_94 : BitVec 32 := 0#32
  let c5_i32_92 : BitVec 32 := 5#32
  let c1_i32_93 : BitVec 32 := 1#32
  let v204 : BitVec 32 := Scalar.muli c5_i32_92 c1_i32_93
  let v205 : BitVec 32 := Scalar.addi c0_i32_94 v204
  v205.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_94 : BitVec 32 := 0#32
  let c6_i32_92 : BitVec 32 := 6#32
  let c1_i32_93 : BitVec 32 := 1#32
  let v204 : BitVec 32 := Scalar.muli c6_i32_92 c1_i32_93
  let v205 : BitVec 32 := Scalar.addi c0_i32_94 v204
  v205.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_94 : BitVec 32 := 0#32
  let c7_i32_92 : BitVec 32 := 7#32
  let c1_i32_93 : BitVec 32 := 1#32
  let v204 : BitVec 32 := Scalar.muli c7_i32_92 c1_i32_93
  let v205 : BitVec 32 := Scalar.addi c0_i32_94 v204
  v205.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_13 : BitVec 32 := 0#32
  let v69 : BitVec 1 := Scalar.cmpi .ne v2 c0_i32_13
  let v70 : BitVec 32 := Scalar.extui v69
  let c0_i32_14 : BitVec 32 := 0#32
  let v71 : BitVec 1 := Scalar.cmpi .ne v70 c0_i32_14
  v71

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let c0_i32_96 : BitVec 32 := 0#32
  ![v2.toNat, 0, 0]
def k0_dev9 : Nat :=
  let c0_i32_94 : BitVec 32 := 0#32
  let c0_i32_92 : BitVec 32 := 0#32
  let c1_i32_93 : BitVec 32 := 1#32
  let v204 : BitVec 32 := Scalar.muli c0_i32_92 c1_i32_93
  let v205 : BitVec 32 := Scalar.addi c0_i32_94 v204
  v205.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v72 : BitVec 1 := Scalar.cmpi .ne v2 c1_i32_15
  let v73 : BitVec 32 := Scalar.extui v72
  let c0_i32_16 : BitVec 32 := 0#32
  let v74 : BitVec 1 := Scalar.cmpi .ne v73 c0_i32_16
  v74

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let c0_i32_96 : BitVec 32 := 0#32
  ![v2.toNat, 0, 0]
def k0_dev10 : Nat :=
  let c0_i32_94 : BitVec 32 := 0#32
  let c1_i32_92 : BitVec 32 := 1#32
  let c1_i32_93 : BitVec 32 := 1#32
  let v204 : BitVec 32 := Scalar.muli c1_i32_92 c1_i32_93
  let v205 : BitVec 32 := Scalar.addi c0_i32_94 v204
  v205.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17 : BitVec 32 := 2#32
  let v75 : BitVec 1 := Scalar.cmpi .ne v2 c2_i32_17
  let v76 : BitVec 32 := Scalar.extui v75
  let c0_i32_18 : BitVec 32 := 0#32
  let v77 : BitVec 1 := Scalar.cmpi .ne v76 c0_i32_18
  v77

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let c0_i32_96 : BitVec 32 := 0#32
  ![v2.toNat, 0, 0]
def k0_dev11 : Nat :=
  let c0_i32_94 : BitVec 32 := 0#32
  let c2_i32_92 : BitVec 32 := 2#32
  let c1_i32_93 : BitVec 32 := 1#32
  let v204 : BitVec 32 := Scalar.muli c2_i32_92 c1_i32_93
  let v205 : BitVec 32 := Scalar.addi c0_i32_94 v204
  v205.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_19 : BitVec 32 := 3#32
  let v78 : BitVec 1 := Scalar.cmpi .ne v2 c3_i32_19
  let v79 : BitVec 32 := Scalar.extui v78
  let c0_i32_20 : BitVec 32 := 0#32
  let v80 : BitVec 1 := Scalar.cmpi .ne v79 c0_i32_20
  v80

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let c0_i32_96 : BitVec 32 := 0#32
  ![v2.toNat, 0, 0]
def k0_dev12 : Nat :=
  let c0_i32_94 : BitVec 32 := 0#32
  let c3_i32_92 : BitVec 32 := 3#32
  let c1_i32_93 : BitVec 32 := 1#32
  let v204 : BitVec 32 := Scalar.muli c3_i32_92 c1_i32_93
  let v205 : BitVec 32 := Scalar.addi c0_i32_94 v204
  v205.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v81 : BitVec 1 := Scalar.cmpi .ne v2 c4_i32_21
  let v82 : BitVec 32 := Scalar.extui v81
  let c0_i32_22 : BitVec 32 := 0#32
  let v83 : BitVec 1 := Scalar.cmpi .ne v82 c0_i32_22
  v83

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let c0_i32_96 : BitVec 32 := 0#32
  ![v2.toNat, 0, 0]
def k0_dev13 : Nat :=
  let c0_i32_94 : BitVec 32 := 0#32
  let c4_i32_92 : BitVec 32 := 4#32
  let c1_i32_93 : BitVec 32 := 1#32
  let v204 : BitVec 32 := Scalar.muli c4_i32_92 c1_i32_93
  let v205 : BitVec 32 := Scalar.addi c0_i32_94 v204
  v205.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_23 : BitVec 32 := 5#32
  let v84 : BitVec 1 := Scalar.cmpi .ne v2 c5_i32_23
  let v85 : BitVec 32 := Scalar.extui v84
  let c0_i32_24 : BitVec 32 := 0#32
  let v86 : BitVec 1 := Scalar.cmpi .ne v85 c0_i32_24
  v86

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let c0_i32_96 : BitVec 32 := 0#32
  ![v2.toNat, 0, 0]
def k0_dev14 : Nat :=
  let c0_i32_94 : BitVec 32 := 0#32
  let c5_i32_92 : BitVec 32 := 5#32
  let c1_i32_93 : BitVec 32 := 1#32
  let v204 : BitVec 32 := Scalar.muli c5_i32_92 c1_i32_93
  let v205 : BitVec 32 := Scalar.addi c0_i32_94 v204
  v205.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_25 : BitVec 32 := 6#32
  let v87 : BitVec 1 := Scalar.cmpi .ne v2 c6_i32_25
  let v88 : BitVec 32 := Scalar.extui v87
  let c0_i32_26 : BitVec 32 := 0#32
  let v89 : BitVec 1 := Scalar.cmpi .ne v88 c0_i32_26
  v89

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let c0_i32_96 : BitVec 32 := 0#32
  ![v2.toNat, 0, 0]
def k0_dev15 : Nat :=
  let c0_i32_94 : BitVec 32 := 0#32
  let c6_i32_92 : BitVec 32 := 6#32
  let c1_i32_93 : BitVec 32 := 1#32
  let v204 : BitVec 32 := Scalar.muli c6_i32_92 c1_i32_93
  let v205 : BitVec 32 := Scalar.addi c0_i32_94 v204
  v205.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_27 : BitVec 32 := 7#32
  let v90 : BitVec 1 := Scalar.cmpi .ne v2 c7_i32_27
  let v91 : BitVec 32 := Scalar.extui v90
  let c0_i32_28 : BitVec 32 := 0#32
  let v92 : BitVec 1 := Scalar.cmpi .ne v91 c0_i32_28
  v92

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let c0_i32_96 : BitVec 32 := 0#32
  ![v2.toNat, 0, 0]
def k0_dev16 : Nat :=
  let c0_i32_94 : BitVec 32 := 0#32
  let c7_i32_92 : BitVec 32 := 7#32
  let c1_i32_93 : BitVec 32 := 1#32
  let v204 : BitVec 32 := Scalar.muli c7_i32_92 c1_i32_93
  let v205 : BitVec 32 := Scalar.addi c0_i32_94 v204
  v205.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_39 : BitVec 32 := 0#32
  let v131 : BitVec 1 := Scalar.cmpi .ne v2 c0_i32_39
  let v132 : BitVec 32 := Scalar.extui v131
  let c0_i32_40 : BitVec 32 := 0#32
  let v133 : BitVec 1 := Scalar.cmpi .ne v132 c0_i32_40
  v133

def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  ![v2.toNat, 0, 0]
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v134 : BitVec 1 := Scalar.cmpi .ne v2 c1_i32_41
  let v135 : BitVec 32 := Scalar.extui v134
  let c0_i32_42 : BitVec 32 := 0#32
  let v136 : BitVec 1 := Scalar.cmpi .ne v135 c0_i32_42
  v136

def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  ![v2.toNat, 0, 0]
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_43 : BitVec 32 := 2#32
  let v137 : BitVec 1 := Scalar.cmpi .ne v2 c2_i32_43
  let v138 : BitVec 32 := Scalar.extui v137
  let c0_i32_44 : BitVec 32 := 0#32
  let v139 : BitVec 1 := Scalar.cmpi .ne v138 c0_i32_44
  v139

def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  ![v2.toNat, 0, 0]
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v140 : BitVec 1 := Scalar.cmpi .ne v2 c3_i32_45
  let v141 : BitVec 32 := Scalar.extui v140
  let c0_i32_46 : BitVec 32 := 0#32
  let v142 : BitVec 1 := Scalar.cmpi .ne v141 c0_i32_46
  v142

def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  ![v2.toNat, 0, 0]
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v143 : BitVec 1 := Scalar.cmpi .ne v2 c4_i32_47
  let v144 : BitVec 32 := Scalar.extui v143
  let c0_i32_48 : BitVec 32 := 0#32
  let v145 : BitVec 1 := Scalar.cmpi .ne v144 c0_i32_48
  v145

def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  ![v2.toNat, 0, 0]
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_49 : BitVec 32 := 5#32
  let v146 : BitVec 1 := Scalar.cmpi .ne v2 c5_i32_49
  let v147 : BitVec 32 := Scalar.extui v146
  let c0_i32_50 : BitVec 32 := 0#32
  let v148 : BitVec 1 := Scalar.cmpi .ne v147 c0_i32_50
  v148

def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  ![v2.toNat, 0, 0]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_51 : BitVec 32 := 6#32
  let v149 : BitVec 1 := Scalar.cmpi .ne v2 c6_i32_51
  let v150 : BitVec 32 := Scalar.extui v149
  let c0_i32_52 : BitVec 32 := 0#32
  let v151 : BitVec 1 := Scalar.cmpi .ne v150 c0_i32_52
  v151

def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  ![v2.toNat, 0, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_53 : BitVec 32 := 7#32
  let v152 : BitVec 1 := Scalar.cmpi .ne v2 c7_i32_53
  let v153 : BitVec 32 := Scalar.extui v152
  let c0_i32_54 : BitVec 32 := 0#32
  let v154 : BitVec 1 := Scalar.cmpi .ne v153 c0_i32_54
  v154

def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  ![v2.toNat, 0, 0]
@[reducible] def k0_t1_loop : Scf.Loop 32 :=
  let c1_i32_87 : BitVec 32 := 1#32
  let c7_i32_88 : BitVec 32 := 7#32
  let v202 : BitVec 32 := Scalar.addi c1_i32_87 c7_i32_88
  let c1_i32_89 : BitVec 32 := 1#32
  ⟨c1_i32_87, v202, c1_i32_89⟩
def k0_off25 (k0_t1 : Fin k0_t1_loop.trips) : Fin 2 → Nat :=
  let c1_i32_87 : BitVec 32 := 1#32
  let c1_i32_89 : BitVec 32 := 1#32
  let arg6 : BitVec 32 := Scf.iv c1_i32_87 c1_i32_89 k0_t1
  let c512_i32 : BitVec 32 := 512#32
  let v204 : BitVec 32 := Scalar.muli arg6 c512_i32
  let v205 : Index := Scalar.indexCast v204
  let c0_91 : Index := 0#32
  ![v205.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S32768x1024, .f32⟩
  | .hbm, ⟨5, _⟩ => ⟨S_, .i32⟩
  | .hbm, ⟨6, _⟩ => ⟨S32768x1024, .f32⟩
  | .hbm, ⟨7, _⟩ => ⟨S_, .i32⟩
  | .hbm, ⟨8, _⟩ => ⟨S1024, .f32⟩
  | .hbm, ⟨9, _⟩ => ⟨S32768x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S32768x1024, .f32⟩
  | .hbm, ⟨19, _⟩ => ⟨S_, .i32⟩
  | .hbm, ⟨20, _⟩ => ⟨S_, .i32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 32768#32, 1#32⟩
-- ==== Proof.Protocol.lean ====
/-
# The exchange of the eight totals, as a protocol

Every device multiplies its block of rows into one row, its TOTAL, and copies the total into a slot of its own on
every other device. Three kinds of semaphores order this, and each is a cell of the protocol with one round:

* the BARRIER cell of device `c`: one unit from each other device `d`, which with it hands over slot `c` of its own
  landing array (so that `c` may copy into it: `d` has entered the kernel);
* the SEND cell `(c, j)`: the copy of `c`'s total to `j` has left; a share of the total's buffer comes back;
* the RECEIVE cell `(c, j)`: the copy of `j`'s total has landed in slot `j` of `c`'s landing array.

The send and the receive cell of a device towards itself are never used: they have no duty.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic
public import Idealize.ShloMosaic.Lib.ValueIdx

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part, and the protocol's with duties named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Buffers, slots and semaphores -/

abbrev xM : Memref sig .tc .vmem S4096x1024 .f32 := Memref.whole cc0_stg0_0
abbrev oM : Memref sig .tc .vmem S4096x1024 .f32 := Memref.whole cc0_stg1_0
abbrev tM : Memref sig .tc .vmem S1x1024 .f32 := Memref.whole cc0_scratch0
abbrev rM : Memref sig .tc .vmem S8x1x1024 .f32 := Memref.whole cc0_scratch1

theorem slot_inb (d : Dev nD) : ∀ a, (![d.val, 0, 0] : Fin 3 → Nat) a + S1x1x1024.size a ≤ S8x1x1024.size a := by
  revert d; decide

/-- Slot `d` of the landing array, as a row. -/
abbrev slotRect (d : Dev nD) : Rect S8x1x1024 := Rect.unit (s := S8x1x1024) ![d.val, 0, 0] S1x1x1024.size (slot_inb d)
abbrev slotM (d : Dev nD) : Memref sig .tc .vmem S1x1024 .f32 :=
  (rM.slice (slotRect d) (fun _ => rfl)).squeeze S1x1024 squeezes_S1x1x1024_S1x1024

/-- The barrier's semaphore, and the copies' by the device at the other end. -/
abbrev barS : Sem sig := (SemArray.scalar (sig.barrier 0 rfl) : Sems sig S_).sem
abbrev sendS (j : Dev nD) : DmaSem sig := ⟨2 + j.val, Nat.lt_of_lt_of_le (Nat.add_lt_add_left j.isLt 2) (by decide)⟩
abbrev recvS (j : Dev nD) : DmaSem sig := ⟨10 + j.val, Nat.lt_of_lt_of_le (Nat.add_lt_add_left j.isLt 10) (by decide)⟩

/-- The cells of one device: its barrier, and per device `j` the send (`false`) and the receive (`true`) cell. -/
abbrev CK : Type := Option (Bool × Dev nD)
abbrev csem : CK → SemLoc sig
  | none => .reg barS
  | some (false, j) => .dma (sendS j)
  | some (true, j) => .dma (recvS j)
abbrev kcell (ck : Dev nD × CK) : GSem nD τ sig := ((ck.1 : Thread nD τ), csem ck.2)
abbrev barCell (c : Dev nD) : GSem nD τ sig := kcell (c, none)
abbrev sendCell (c j : Dev nD) : GSem nD τ sig := kcell (c, some (false, j))
abbrev recvCell (c j : Dev nD) : GSem nD τ sig := kcell (c, some (true, j))

theorem csem_injective : Function.Injective csem := by decide

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which cell of its device a semaphore is, if one of the protocol's. -/
def kindOf (s : SemLoc sig) : Option CK :=
  match s with
  | .reg _ => some none
  | .dma q =>
    if h : 2 ≤ q.val ∧ q.val < 10 then some (some (false, ⟨q.val - 2, by show _ < 8; omega⟩))
    else if h' : 10 ≤ q.val ∧ q.val < 18 then some (some (true, ⟨q.val - 10, by show _ < 8; omega⟩))
    else none

theorem kindOf_csem (k : CK) : kindOf (csem k) = some k := by revert k; decide

abbrev N : ℕ := tM.view.dmaCredit
theorem N_pos : 0 < N := View.dmaCredit_pos _ (by decide)
theorem slot_credit (off : Fin 3 → ℕ) (h : ∀ a, off a + S1x1x1024.size a ≤ S8x1x1024.size a) :
    ((rM.slice (Rect.unit (s := S8x1x1024) off S1x1x1024.size h) (fun _ => rfl)).squeeze S1x1024 squeezes_S1x1x1024_S1x1024).view.dmaCredit = N := rfl

/-! ## What the cells hand over -/

/-- Slot `d` of device `c`'s landing array, held with contents `f`. -/
def slotPts (c d : Dev nD) (f : Buf (Elt F) ((slotM d).view.loc (c : Thread nD τ))) : sProp 𝕄 :=
  (slotM d).view.loc (c : Thread nD τ) ↦[(slotM d).view.set]{fullShare} f

/-- A landing array each of whose slots holds the row `t`. -/
def rowsOf (t : FVec F S1x1024 .f32) : (cc0_scratch1 : Ref sig .tc).ty.Contents (Elt F) := fun i => t (ValueIdx.ix2 0 (i 2))

/-- One eighth of the buffer of device `c`'s total, holding `t`. -/
def srcPts (c j : Dev nD) (t : FVec F S1x1024 .f32) : sProp 𝕄 :=
  tM.view.loc (c : Thread nD τ) ↦[tM.view.set]{ShareLeaves.leaf 3 fullShare j} t

omit [FloatOps F] in
instance slotPts_storable (c d : Dev nD) (f) : BI.Storable (upEmb : UEmb _ 𝕄) (slotPts (F := F) c d f) := by
  unfold slotPts; infer_instance
omit [FloatOps F] in
instance srcPts_storable (c j : Dev nD) (t) : BI.Storable (upEmb : UEmb _ 𝕄) (srcPts (F := F) c j t) := by
  unfold srcPts; infer_instance

/-! ## The schedule -/

variable (T : Dev nD → FVec F S1x1024 .f32)

/-- The duties of cell `k` of device `c`, by the device that pays them. -/
def dutiesOf (c : Dev nD) : CK → Finset (Dev nD)
  | none => Finset.univ.erase c
  | some (false, j) => if j = c then ∅ else {c}
  | some (true, j) => if j = c then ∅ else {j}
def amountOf : CK → ℕ
  | none => 1
  | some _ => N
def payOf (c : Dev nD) (d : Dev nD) : CK → sProp 𝕄
  | none => iprop(∃ f, slotPts d c f)
  | some (false, j) => srcPts c j (T c)
  | some (true, j) => slotPts c j (rowsOf (T j))

omit [FloatOps F] in
instance payOf_storable (c d : Dev nD) (k : CK) : BI.Storable (upEmb : UEmb _ 𝕄) (payOf (F := F) T c d k) := by
  match k with
  | none => unfold payOf; infer_instance
  | some (false, j) => unfold payOf; infer_instance
  | some (true, j) => unfold payOf; infer_instance

/-- One round, round 0, at every cell of the protocol. -/
def Rd : Rounds.Schedule (GSem nD τ sig) (Dev nD) 𝕄 where
  duties g r := if r = 0 ∧ g.1.2 = .tc then (match kindOf g.2 with | some k => dutiesOf g.1.1 k | none => ∅) else ∅
  unitless _ := False
  amount g _ _ := match kindOf g.2 with | some k => amountOf k | none => 1
  payload g _ d := match kindOf g.2 with | some k => payOf T g.1.1 d k | none => iprop(emp)
  amount_pos g _ _ _ := by
    rcases kindOf g.2 with _ | (_ | k)
    · exact Nat.one_pos
    · exact Nat.one_pos
    · exact N_pos

omit [FloatOps F] in
instance Rd_payload_storable (g : GSem nD τ sig) (r : ℕ) (d : Dev nD) :
    BI.Storable (upEmb : UEmb _ 𝕄) ((Rd (F := F) T).payload g r d) := by
  dsimp only [Rd]
  split <;> infer_instance

section Sched
variable (c : Dev nD) (k : CK)

omit [FloatOps F] in
theorem Rd_duties : (Rd (F := F) T).duties (kcell (c, k)) 0 = dutiesOf c k := by
  dsimp only [Rd]; rw [if_pos ⟨rfl, rfl⟩, kindOf_csem]
omit [FloatOps F] in
theorem Rd_later (g : GSem nD τ sig) : ∀ r, 0 + 1 ≤ r → (Rd (F := F) T).duties g r = ∅ :=
  fun r hr => by dsimp only [Rd]; exact if_neg fun h => by omega
omit [FloatOps F] in
theorem Rd_amount (d : Dev nD) : (Rd (F := F) T).amount (kcell (c, k)) 0 d = amountOf k := by
  dsimp only [Rd]; rw [kindOf_csem]
omit [FloatOps F] in
theorem Rd_payload (d : Dev nD) : (Rd (F := F) T).payload (kcell (c, k)) 0 d = payOf T c d k := by
  dsimp only [Rd]; rw [kindOf_csem]
omit [FloatOps F] in
theorem Rd_expect : (Rd (F := F) T).expect (kcell (c, k)) 0 = (dutiesOf c k).card * amountOf k := by
  unfold Schedule.expect Schedule.amountOf
  rw [Rd_duties, Finset.sum_congr rfl fun d _ => Rd_amount T c k d, Finset.sum_const, smul_eq_mul]
omit [FloatOps F] in
theorem Rd_rest : bigSep ((Rd (F := F) T).duties (kcell (c, k)) 0 \ ∅) (fun d => (Rd (F := F) T).payload (kcell (c, k)) 0 d)
    = bigSep (dutiesOf c k) (fun d => payOf T c d k) := by
  rw [Finset.sdiff_empty, Rd_duties]; exact bigSep_congr fun d _ => Rd_payload T c k d
/-- A cell towards the device itself has no duty in any round. -/
theorem Rd_own (b : Bool) : ∀ r, 0 ≤ r → (Rd (F := F) T).duties (kcell (c, some (b, c))) r = ∅ := fun r _ => by
  rcases Nat.eq_zero_or_pos r with rfl | h
  · rw [Rd_duties]; cases b <;> exact if_pos rfl
  · exact Rd_later T _ r (by omega)

end Sched

omit [FloatOps F] in
theorem expect_bar (c : Dev nD) : (Rd (F := F) T).expect (barCell c) 0 = 7 := by
  rw [Rd_expect]
  show (Finset.univ.erase c).card * 1 = 7
  rw [Finset.card_erase_of_mem (Finset.mem_univ _)]; rfl
omit [FloatOps F] in
theorem expect_send {c j : Dev nD} (h : j ≠ c) : (Rd (F := F) T).expect (sendCell c j) 0 = N := by
  rw [Rd_expect]; dsimp only [dutiesOf, amountOf]; rw [if_neg h, Finset.card_singleton, Nat.one_mul]
omit [FloatOps F] in
theorem expect_recv {c j : Dev nD} (h : j ≠ c) : (Rd (F := F) T).expect (recvCell c j) 0 = N := by
  rw [Rd_expect]; dsimp only [dutiesOf, amountOf]; rw [if_neg h, Finset.card_singleton, Nat.one_mul]

/-! ## What a device owes at launch, and the order of the waits -/

/-- The unit device `c` owes `j`'s barrier, and the credit of its copy to `j`. -/
def owBar (c j : Dev nD) : CellTallies nD τ sig Unit := if j = c then 0 else tallyAt (barCell j) () 1
def owRecv (c j : Dev nD) : CellTallies nD τ sig Unit := if j = c then 0 else tallyAt (recvCell j c) () N

/-- Summed so that the program's order peels the summands from the right. -/
def O₁ (c : Dev nD) : CellTallies nD τ sig Unit :=
  (((((((0 + owRecv c 7) + owRecv c 6) + owRecv c 5) + owRecv c 4) + owRecv c 3) + owRecv c 2) + owRecv c 1) + owRecv c 0
def O₀ (c : Dev nD) : CellTallies nD τ sig Unit :=
  (((((((O₁ c + owBar c 7) + owBar c 6) + owBar c 5) + owBar c 4) + owBar c 3) + owBar c 2) + owBar c 1) + owBar c 0

def L (g : GSem nD τ sig) : Finset Unit := if g.1.2 = .tc then {()} else ∅
/-- Barrier cells at 1, receive cells at 2, every other cell at 0. -/
def lvOf : Option CK → ℕ
  | some none => 1
  | some (some (true, _)) => 2
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem owBar_pos {c j : Dev nD} {g : GSem nD τ sig} {u : Unit} (h : 0 < owBar c j g u) : g = barCell j := by
  unfold owBar at h
  split at h
  · exact absurd h (Nat.lt_irrefl 0)
  · rw [tallyAt_apply] at h
    by_contra hn
    rw [if_neg fun h' => hn h'.1] at h
    exact Nat.lt_irrefl 0 h
theorem owRecv_pos {c j : Dev nD} {g : GSem nD τ sig} {u : Unit} (h : 0 < owRecv c j g u) : g = recvCell j c := by
  unfold owRecv at h
  split at h
  · exact absurd h (Nat.lt_irrefl 0)
  · rw [tallyAt_apply] at h
    by_contra hn
    rw [if_neg fun h' => hn h'.1] at h
    exact Nat.lt_irrefl 0 h

theorem O₁_eq_sum (c : Dev nD) : O₁ c = ∑ j, owRecv c j := by
  unfold O₁; rw [Fin.sum_univ_eight, zero_add]; ac_rfl
theorem O₀_eq_sum (c : Dev nD) : O₀ c = (∑ j, owRecv c j) + ∑ j, owBar c j := by
  unfold O₀; rw [O₁_eq_sum, Fin.sum_univ_eight (fun j => owBar c j)]; ac_rfl

theorem sum_tally_apply (f : Dev nD → CellTallies nD τ sig Unit) (g : GSem nD τ sig) (u : Unit) :
    (∑ j, f j) g u = ∑ j, f j g u := by
  rw [Finset.sum_apply, Finsupp.finset_sum_apply]

theorem O₁_pos {c : Dev nD} {g : GSem nD τ sig} {u : Unit} (h : 0 < O₁ c g u) : ∃ j, g = recvCell j c := by
  rw [O₁_eq_sum, sum_tally_apply] at h
  obtain ⟨j, -, hj⟩ := Finset.exists_ne_zero_of_sum_ne_zero (Nat.pos_iff_ne_zero.mp h)
  exact ⟨j, owRecv_pos (Nat.pos_of_ne_zero hj)⟩
theorem O₀_pos {c : Dev nD} {g : GSem nD τ sig} {u : Unit} (h : 0 < O₀ c g u) : (∃ j, g = recvCell j c) ∨ ∃ j, g = barCell j := by
  rw [O₀_eq_sum, Pi.add_apply, Finsupp.add_apply] at h
  rcases Nat.eq_zero_or_pos ((∑ j, owRecv c j) g u) with h0 | h0
  · right
    rw [h0, Nat.zero_add, sum_tally_apply] at h
    obtain ⟨j, -, hj⟩ := Finset.exists_ne_zero_of_sum_ne_zero (Nat.pos_iff_ne_zero.mp h)
    exact ⟨j, owBar_pos (Nat.pos_of_ne_zero hj)⟩
  · left; rw [← O₁_eq_sum] at h0; exact O₁_pos h0

theorem lv_kcell (ck : Dev nD × CK) (u : Unit) : lv (kcell ck) u = lvOf (some ck.2) := by
  unfold lv; rw [kindOf_csem]

omit [FloatOps F] in
/-- A wait at a semaphore of level 0 — the pipeline's own — is in order whatever of the launch's debt is open. -/
theorem mayWait_stage (c : Dev nD) (s : SemLoc sig) (hs : lvOf (kindOf s) = 0) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact hs.le)
      (fun g u hg => by
        rcases O₀_pos hg with ⟨j, rfl⟩ | ⟨j, rfl⟩ <;> rw [lv_kcell]
        · exact Nat.zero_lt_two
        · exact Nat.zero_lt_one)
  · rw [MayWait_zero]; iintro -; iempintro

omit [FloatOps F] in
/-- At its barrier a device owes its copies only, whose cells lie above. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨j, rfl⟩ := O₁_pos hg; exact Finset.mem_singleton_self _)
    (fun p hp => by rw [Finset.mem_singleton.mp hp]; exact (lv_kcell (c, none) ()).le)
    (fun g u hg => by obtain ⟨j, rfl⟩ := O₁_pos hg; rw [lv_kcell]; exact Nat.one_lt_two)

/-! ## What every device knows: the cells' invariants, and that each has reached round 0 -/

def records (K : Dev nD × CK → ℕ) : sProp 𝕄 :=
  iprop((bigSep Finset.univ fun ck : Dev nD × CK => cellInv ER (Rd T) (K ck) (kcell ck))
    ∗ bigSep Finset.univ fun ck : Dev nD × CK => reached ER (kcell ck) 0)

omit [FloatOps F] in
instance records_persistent (K : Dev nD × CK → ℕ) : BI.Persistent (records (F := F) T K) := by unfold records; infer_instance

omit [FloatOps F] in
theorem records_inv (K : Dev nD × CK → ℕ) (ck : Dev nD × CK) : records (F := F) T K ⊢ cellInv ER (Rd T) (K ck) (kcell ck) := by
  unfold records
  exact (Idealize.SL.BI.sep_and.trans and_elimL).trans (bigSep_elim (Finset.mem_univ ck))
omit [FloatOps F] in
theorem records_reached (K : Dev nD × CK → ℕ) (ck : Dev nD × CK) : records (F := F) T K ⊢ reached ER (kcell ck) 0 := by
  unfold records
  exact (Idealize.SL.BI.sep_and.trans and_elimR).trans (bigSep_elim (Finset.mem_univ ck))

end Cert.PrefixProof

end
-- ==== Proof.Slots.lean ====
/-
# The landing array by slots, the total's buffer by shares

The landing array of a device is its eight slots, one row each; the buffer of a device's total is eight shares of it.
A total copied into a slot is there the row `rowsOf` names, and a load of that slot reads it back.
-/
module

public import proofs.«01_k».proof.Proof.Protocol

@[expose] public section

noncomputable section

namespace Cert.PrefixProof

open Cert.KernelIdeal Cert.KernelIdeal.Gen

open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where a slot's elements are -/

theorem row_idx (x : S1x1024.Idx) : ix2 (n0 := 1) (n1 := 1024) 0 (x 1) = x := by
  funext a
  match a with
  | ⟨0, _⟩ => exact Fin.ext (by have h : (x 0).val < 1 := (x 0).isLt; show 0 = (x 0).val; omega)
  | ⟨1, _⟩ => rfl

theorem slot_idx (i : S8x1x1024.Idx) : ix3 (n0 := 8) (n1 := 1) (n2 := 1024) (i 0) 0 (i 2) = i := by
  funext a
  match a with
  | ⟨0, _⟩ => rfl
  | ⟨1, _⟩ => exact Fin.ext (by have h : (i 1).val < 1 := (i 1).isLt; show 0 = (i 1).val; omega)
  | ⟨2, _⟩ => rfl

theorem slotRect_emb (d : Dev nD) (y : S1x1x1024.Idx) : (slotRect d).emb y = ix3 (n0 := 8) (n1 := 1) (n2 := 1024) d 0 (y 2) := by
  funext a
  refine Fin.ext ?_
  rw [Rect.emb_apply]
  match a with
  | ⟨0, _⟩ =>
    have h : (y 0).val < 1 := (y 0).isLt
    show d.val + 1 * (y 0).val = d.val
    omega
  | ⟨1, _⟩ =>
    have h : (y 1).val < 1 := (y 1).isLt
    show 0 + 1 * (y 1).val = 0
    omega
  | ⟨2, _⟩ =>
    show 0 + 1 * (y 2).val = (y 2).val
    omega

theorem slot_emb (d : Dev nD) (x : S1x1024.Idx) : (slotM d).view.emb x = ix3 (n0 := 8) (n1 := 1) (n2 := 1024) d 0 (x 1) := by
  have h : Shape.reshapeEquiv (squeezes_S1x1x1024_S1x1024).numel_eq x = (Fin.cons ⟨0, Nat.one_pos⟩ x : S1x1x1024.Idx) :=
    Shape.reshapeEquiv_cons_one _ x
  show (slotRect d).emb (Shape.reshapeEquiv (squeezes_S1x1x1024_S1x1024).numel_eq x) = _
  rw [h, slotRect_emb]; rfl

theorem mem_slot (d : Dev nD) (i : S8x1x1024.Idx) : i ∈ (slotM d).view.set ↔ i 0 = d := by
  constructor
  · intro h
    obtain ⟨x, -, hx⟩ := Finset.mem_map.mp h
    rw [slot_emb] at hx
    exact (congrFun hx 0).symm
  · intro h
    have hi : i = (slotM d).view.emb (ix2 (n0 := 1) (n1 := 1024) 0 (i 2)) := by
      rw [slot_emb, ← h]; exact (slot_idx i).symm
    rw [hi]
    exact View.emb_mem_set _ _

theorem slots_disjoint (d d' : Dev nD) (h : d ≠ d') : Disjoint (slotM d).view.set (slotM d').view.set :=
  Finset.disjoint_left.mpr fun i h1 h2 => h (((mem_slot d i).mp h1).symm.trans ((mem_slot d' i).mp h2))

theorem slots_cover : (Finset.univ : Finset (Dev nD)).biUnion (fun d => (slotM d).view.set) = (Finset.univ : Finset S8x1x1024.Idx) := by
  ext i
  simp only [Finset.mem_biUnion, Finset.mem_univ, true_and, iff_true]
  exact ⟨i 0, (mem_slot _ i).mpr rfl⟩

/-! ## The array is its slots -/

omit [FloatOps F] in
theorem slots_split (c : Dev nD) (f : Buf (Elt F) ((c : Thread nD τ).loc cc0_scratch1)) :
    (((c : Thread nD τ).loc cc0_scratch1) ↦{fullShare} f : sProp 𝕄) ⊢ bigSep Finset.univ fun d : Dev nD => slotPts c d f := by
  unfold slotPts
  refine Entails.of_eq ?_
  rw [← pointsTo_biUnion (ℓ := (c : Thread nD τ).loc cc0_scratch1) Finset.univ (fun d : Dev nD => (slotM d).view.set)
    fun d _ d' _ h => slots_disjoint d d' h]
  exact congrArg (fun I => (((c : Thread nD τ).loc cc0_scratch1) ↦[I]{fullShare} f : sProp 𝕄)) slots_cover.symm

omit [FloatOps F] in
theorem slots_join (c : Dev nD) (fs : Dev nD → (cc0_scratch1 : Ref sig .tc).ty.Contents (Elt F)) :
    (bigSep Finset.univ fun d : Dev nD => (slotPts c d (fs d) : sProp 𝕄)) ⊢ iprop(∃ f, (((c : Thread nD τ).loc cc0_scratch1) ↦{fullShare} f)) := by
  unfold slotPts
  refine (pointsTo_biUnion_join (ℓ := (c : Thread nD τ).loc cc0_scratch1) Finset.univ (fun d : Dev nD => (slotM d).view.set) fs (fs 0)
    fun d _ d' _ h => slots_disjoint d d' h).trans ?_
  rw [slots_cover]
  iintro ⟨%g, -, H⟩
  iexists g; iexact H

omit [FloatOps F] in
theorem src_shares (c : Dev nD) (t : FVec F S1x1024 .f32) :
    (tM.view.loc (c : Thread nD τ) ↦[tM.view.set]{fullShare} t : sProp 𝕄) = bigSep Finset.univ fun j : Dev nD => srcPts c j t := by
  unfold srcPts
  exact ShareLeaves.pointsTo_leaves _ _ 3 fullShare

/-! ## A total in a slot -/

omit [FloatOps F] in
/-- The row `t` written through slot `d`, whatever the array held. -/
theorem slot_landed (c d : Dev nD) (f : (cc0_scratch1 : Ref sig .tc).ty.Contents (Elt F)) (t : FVec F S1x1024 .f32) :
    ((slotM d).view.loc (c : Thread nD τ) ↦[(slotM d).view.set]{fullShare}
        (slotM d).view.write (Elt F) f (tM.view.read (Elt F) t) Finset.univ : sProp 𝕄) = slotPts c d (rowsOf t) := by
  unfold slotPts
  refine pointsTo_congr fun i hi => ?_
  obtain ⟨x, -, rfl⟩ := Finset.mem_map.mp hi
  rw [View.write_emb_of_mem _ _ (Finset.mem_univ x), slot_emb]
  show t x = t (ix2 0 (x 1))
  rw [row_idx]

/-- A slot's rectangle, over its row's shape: what a load of it names. -/
abbrev rowVec (t : FVec F S1x1024 .f32) : FVec F S1x1x1024 .f32 := fun y => t (ix2 (n0 := 1) (n1 := 1024) 0 (y 2))

omit [FloatOps F] in
theorem slot_read (d : Dev nD) (t : FVec F S1x1024 .f32) :
    rM.view.readAt (Elt F) (slotRect d).toLoadRect (rowsOf t) = rowVec t := by
  funext y
  show rowsOf t ((slotRect d).emb y) = _
  rw [slotRect_emb]; rfl

theorem slot_load_sub (d : Dev nD) : rM.view.setOn (slotRect d).toLoadRect.set ⊆ (slotM d).view.set := by
  intro i hi
  obtain ⟨y, hy, rfl⟩ := Finset.mem_map.mp hi
  obtain ⟨z, -, rfl⟩ := Finset.mem_map.mp (show y ∈ Finset.univ.map (slotRect d).emb from by rw [Rect.map_emb_univ]; exact hy)
  rw [mem_slot]
  show (slotRect d).emb z 0 = d
  rw [slotRect_emb]

omit [FloatOps F] in
/-- A row back from its load, as the program reshapes it. -/
theorem rowVec_cast (t : FVec F S1x1024 .f32) : shapeCast S1x1024 (rowVec t) shapeCasts_S1x1x1024_S1x1024 = t := by
  funext x
  have h : Shape.reshapeEquiv (shapeCasts_S1x1x1024_S1x1024) x = (Fin.cons ⟨0, Nat.one_pos⟩ x : S1x1x1024.Idx) :=
    Shape.reshapeEquiv_cons_one _ x
  show rowVec t (Shape.reshapeEquiv _ x) = t x
  rw [h]
  show t (ix2 0 (x 1)) = t x
  rw [row_idx]

end Cert.PrefixProof

end
-- ==== Proof.Steps.lean ====
/-
# The three guarded steps of the exchange

The program goes over the eight devices three times — signal, copy, wait — and each time passes over itself by a
conditional. Each of the three is one statement here, for any peer `j`: what it takes and what it leaves is gated by
`j = c` in the same way, so that the program's eight conditionals are eight uses of it.
-/
module

public import proofs.«01_k».proof.Proof.Slots

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → FVec F S1x1024 .f32) (K : Dev nD × CK → ℕ)

/-! ## What a device holds towards a peer, before and after each step -/

/-- The debt, whatever has been waited for. -/
def Ow (c : Dev nD) (O : CellTallies nD τ sig Unit) : sProp 𝕄 := iprop(∃ W, owes (c : Thread nD τ) O W)

def anySlot (c j : Dev nD) : sProp 𝕄 := iprop(∃ f, slotPts c j f)
def sigTok (c j : Dev nD) : sProp 𝕄 := if j = c then iprop(emp) else dutyTok ER (barCell j) 0 c
def keptSlot (c j : Dev nD) : sProp 𝕄 := if j = c then anySlot c j else iprop(emp)
def peerSlot (c j : Dev nD) : sProp 𝕄 := if j = c then iprop(emp) else anySlot j c
def sendTok (c j : Dev nD) : sProp 𝕄 :=
  if j = c then iprop(emp) else iprop(dutyTok ER (sendCell c j) 0 c ∗ dutyTok ER (recvCell j c) 0 c)
def sent (c j : Dev nD) : sProp 𝕄 := if j = c then srcPts c j (T c) else cred (tallyAt (sendCell c j) () N)
def recvCred (c j : Dev nD) : sProp 𝕄 := if j = c then iprop(emp) else cred (tallyAt (recvCell c j) () N)
def positions (c j : Dev nD) : sProp 𝕄 := iprop(atPos ER (sendCell c j) 0 ∅ 0 ∗ atPos ER (recvCell c j) 0 ∅ 0)
def landedSlot (c j : Dev nD) : sProp 𝕄 := iprop(∃ f, ⌜j ≠ c → f = rowsOf (T j)⌝ ∗ slotPts c j f)
def closed (c j : Dev nD) : sProp 𝕄 := iprop(semVal (sendCell c j) 0 ∗ semVal (recvCell c j) 0)

/-! ## The semaphores the program names -/

theorem one_inb (j : Dev nD) : ∀ a, (![j.val] : Fin 1 → ℕ) a + S1.size a ≤ S8.size a := by revert j; decide

theorem sendSem_eq {off : Fin 1 → ℕ} {j : Dev nD} (h : off = ![j.val]) (inb : ∀ a, off a + S1.size a ≤ S8.size a) :
    (SemArray.squeeze (SemArray.slice (cc0_scratch2 : DmaSems sig S8) (Rect.unit (s := S8) off S1.size inb)) S_ squeezes_S1_S_).sem = sendS j := by
  subst h
  exact (show ∀ j : Dev nD, (SemArray.squeeze (SemArray.slice (cc0_scratch2 : DmaSems sig S8) (Rect.unit (s := S8) ![j.val] S1.size (one_inb j))) S_ squeezes_S1_S_).sem = sendS j
    by decide +kernel) j
theorem recvSem_eq {off : Fin 1 → ℕ} {j : Dev nD} (h : off = ![j.val]) (inb : ∀ a, off a + S1.size a ≤ S8.size a) :
    (SemArray.squeeze (SemArray.slice (cc0_scratch3 : DmaSems sig S8) (Rect.unit (s := S8) off S1.size inb)) S_ squeezes_S1_S_).sem = recvS j := by
  subst h
  exact (show ∀ j : Dev nD, (SemArray.squeeze (SemArray.slice (cc0_scratch3 : DmaSems sig S8) (Rect.unit (s := S8) ![j.val] S1.size (one_inb j))) S_ squeezes_S1_S_).sem = recvS j
    by decide +kernel) j

abbrev semOf (a : DmaSems sig S8) (off : Fin 1 → ℕ) (inb : ∀ x, off x + S1.size x ≤ S8.size x) : DmaSem sig :=
  (SemArray.squeeze (SemArray.slice a (Rect.unit (s := S8) off S1.size inb)) S_ squeezes_S1_S_).sem
abbrev rowOf (off : Fin 3 → ℕ) (inb : ∀ x, off x + S1x1x1024.size x ≤ S8x1x1024.size x) : Memref sig .tc .vmem S1x1024 .f32 :=
  (rM.slice (Rect.unit (s := S8x1x1024) off S1x1x1024.size inb) (fun _ => rfl)).squeeze S1x1024 squeezes_S1x1x1024_S1x1024

section Steps

variable {c j : Dev nD} {b : BitVec 1} {β : Type} {Q : β → sProp (MT nD τ sig Unit (Elt F) ℕ UU ℕ)}
  {k : Prog (TpuEff nD τ sig (Elt F) Λ₀ .tc) β} (hb : b = 1#1 ↔ j ≠ c)

include hb

/-- The signal: slot `j` of the device's landing array goes to `j`. -/
theorem step_signal {n : ℕ} (hn : n = j.val) (hlt : b = 1#1 → n < nD) (O : CellTallies nD τ sig Unit) :
    iprop(records T K ∗ Ow c (O + owBar c j) ∗ anySlot c j ∗ sigTok c j)
      ⊢ iprop(((Ow c O ∗ keptSlot c j) -∗ wp frame (wpE (defs₀ (F := F)) 𝒱₀ (c : Thread nD τ) none) Set.univ k Q)
        -∗ wp frame (wpE (defs₀ (F := F)) 𝒱₀ (c : Thread nD τ) none) Set.univ
          (if h : b = 1#1 then (semSignalWord (⟨n, hlt h⟩ : Dev nD) barS 1#32 >>= fun _ => k) else k) Q) := by
  by_cases hj : j = c
  · rw [dif_neg fun h => hb.mp h hj]
    unfold sigTok keptSlot owBar
    rw [if_pos hj, if_pos hj, if_pos hj, add_zero]
    iintro ⟨-, HO, Hs, -⟩ Hk
    iapply Hk
    isplitl [HO] <;> iassumption
  · rw [dif_pos (hb.mpr hj)]
    have hd : (⟨n, hlt (hb.mpr hj)⟩ : Dev nD) = j := Fin.ext hn
    simp only [hd, semSignalWord, Prog.bind_op, Prog.bind_ret]
    unfold sigTok keptSlot owBar Ow
    rw [if_neg hj, if_neg hj, if_neg hj]
    iintro ⟨#HR, ⟨%W, HO⟩, Hs, Ht⟩ Hk
    have h1 : c ∈ (Rd (F := F) T).duties (barCell j) 0 := by
      rw [Rd_duties T j none]; exact Finset.mem_erase.mpr ⟨fun h => hj h.symm, Finset.mem_univ _⟩
    have h2 : (Rd (F := F) T).amount (barCell j) 0 c = 1 := Rd_amount T j none c
    iapply (Rounds.wp_signal 𝒱₀ ER (Rd T) (c : Thread nD τ) none (dst := (j : Thread nD τ)) (sem := barS) (κ := K (j, none)) (r := 0)
        (d := c) (k' := 1) h1 h2 () O rfl)
      $$ [HO Hs Ht]
    · isplitr; · iapply (records_inv T K (j, none)); iexact HR
      isplitl [HO]; · iexact HO
      isplitl [Ht]; · iexact Ht
      isplitl [Hs]
      · rw [Rd_payload T j none c]; unfold anySlot payOf; iexact Hs
      iapply (records_reached T K (j, none)); iexact HR
    iintro HO
    iapply Hk
    isplitl [HO]; · iexists W; iexact HO
    iempintro

/-- The copy of the device's total into its slot on `j`. -/
theorem step_send {soff : Fin 1 → ℕ} {hsoff : ∀ x, soff x + S1.size x ≤ S8.size x} (hs : soff = ![j.val])
    {voff : Fin 1 → ℕ} {hvoff : b = 1#1 → ∀ x, voff x + S1.size x ≤ S8.size x} (hv : voff = ![c.val])
    {roff : Fin 3 → ℕ} {hroff : b = 1#1 → ∀ x, roff x + S1x1x1024.size x ≤ S8x1x1024.size x} (hr : roff = ![c.val, 0, 0])
    {n : ℕ} (hn : n = j.val) {hlt : b = 1#1 → n < nD}
    {hsc : ∀ h : b = 1#1, (rowOf roff (hroff h)).view.ref.isScScratch = false}
    {hsrc : tM.view.WordExact} {hdst : ∀ h : b = 1#1, (rowOf roff (hroff h)).view.WordExact}
    {hsem : ∀ h : b = 1#1, DmaTarget.Typed .vmem (.dma (semOf cc0_scratch3 voff (hvoff h)))
      (.remote (Dev.tc (⟨n, hlt h⟩ : Dev nD)) (rowOf roff (hroff h)) (.dma (semOf cc0_scratch2 soff hsoff)) (hsc h))}
    (O : CellTallies nD τ sig Unit) :
    iprop(records T K ∗ Ow c (O + owRecv c j) ∗ srcPts c j (T c) ∗ peerSlot c j ∗ sendTok c j)
      ⊢ iprop(((Ow c O ∗ sent T c j) -∗ wp frame (wpE (defs₀ (F := F)) 𝒱₀ (c : Thread nD τ) none) Set.univ k Q)
        -∗ wp frame (wpE (defs₀ (F := F)) 𝒱₀ (c : Thread nD τ) none) Set.univ
          (if h : b = 1#1 then (Prog.lift (.enqueueDma tM (.remote (Dev.tc (⟨n, hlt h⟩ : Dev nD)) (rowOf roff (hroff h)) (.dma (semOf cc0_scratch2 soff hsoff)) (hsc h))
              (.dma (semOf cc0_scratch3 voff (hvoff h))) hsrc (hdst h) (hsem h)) >>= fun _ => k) else k) Q) := by
  by_cases hj : j = c
  · rw [dif_neg fun h => hb.mp h hj]
    unfold sent owRecv
    rw [if_pos hj, if_pos hj, add_zero]
    iintro ⟨-, HO, Hs, -, -⟩ Hk
    iapply Hk
    isplitl [HO] <;> iassumption
  · have hb1 := hb.mpr hj
    rw [dif_pos hb1]
    have hcj : c ≠ j := fun h => hj h.symm
    subst hr
    generalize hsem hb1 = hsem'
    have e1 := sendSem_eq hs hsoff
    have e2 := recvSem_eq hv (hvoff hb1)
    have hd : (⟨n, hlt hb1⟩ : Dev nD) = j := Fin.ext hn
    change semOf cc0_scratch2 soff hsoff = sendS j at e1
    change semOf cc0_scratch3 voff (hvoff hb1) = recvS c at e2
    revert hsem'
    generalize hsc hb1 = hsc'
    revert hsc'
    rw [e1, e2, hd]
    intro hsc' hsem'
    simp only [Prog.lift, Prog.bind_op, Prog.bind_ret]
    unfold sent owRecv peerSlot sendTok anySlot Ow
    rw [if_neg hj, if_neg hj, if_neg hj, if_neg hj]
    iintro ⟨#HR, ⟨%W, HO⟩, Hs, ⟨%fn, Hp⟩, Ht1, Ht2⟩ Hk
    unfold srcPts slotPts
    iapply (Rounds.wp_send_pointsTo 𝒱₀ ER (Rd T) (c : Thread nD τ) none (κ₁ := K (c, some (false, j))) (κ₂ := K (j, some (true, c)))
        (c' := (j : Thread nD τ)) (src := tM) (dst := (slotM c : Memref sig (j : Thread nD τ).2.kind .vmem S1x1024 .f32))
        (r₁ := 0) (r₂ := 0) (d₁ := c) (d₂ := c) (fd := fn)
        (by rw [Rd_duties T c (some (false, j))]; dsimp only [dutiesOf]; rw [if_neg hj]; exact Finset.mem_singleton_self _)
        (by rw [Rd_duties T j (some (true, c))]; dsimp only [dutiesOf]; rw [if_neg hcj]; exact Finset.mem_singleton_self _)
        () () N rfl (Rd_amount T c (some (false, j)) c) (Rd_amount T j (some (true, c)) c) O rfl (W := W)
        (by rw [Rd_payload T c (some (false, j)) c]; exact BI.Entails.refl _)
        (by rw [Rd_payload T j (some (true, c)) c]; exact Entails.of_eq (slot_landed j c fn (T c)))) $$ [HO Hs Hp Ht1 Ht2]
    · isplitr; · iapply (records_inv T K (c, some (false, j))); iexact HR
      isplitr; · iapply (records_inv T K (j, some (true, c))); iexact HR
      isplitl [Hs]; · iexact Hs
      isplitl [Hp]; · iexact Hp
      isplitl [HO]; · iexact HO
      isplitl [Ht1]; · iexact Ht1
      isplitr; · iapply (records_reached T K (c, some (false, j))); iexact HR
      isplitl [Ht2]; · iexact Ht2
      iapply (records_reached T K (j, some (true, c))); iexact HR
    iintro ⟨Hc, HO⟩
    iapply Hk
    isplitl [HO]; · iexists W; iexact HO
    iexact Hc

/-- The two waits: the share of the total's buffer comes back, and `j`'s total has landed. -/
theorem step_wait {soff : Fin 1 → ℕ} {hsoff : ∀ x, soff x + S1.size x ≤ S8.size x} (hs : soff = ![j.val])
    {src₁ : b = 1#1 → Memref sig .tc .vmem S1x1024 .f32}
    {hsrc₁ : ∀ h : b = 1#1, (src₁ h).view.WordExact} {hdst₁ : b = 1#1 → tM.view.WordExact}
    {roff : Fin 3 → ℕ} {hroff : ∀ x, roff x + S1x1x1024.size x ≤ S8x1x1024.size x}
    {hsrc₂ : b = 1#1 → tM.view.WordExact} {hdst₂ : b = 1#1 → (rowOf roff hroff).view.WordExact} :
    iprop(records T K ∗ Ow c 0 ∗ sent T c j ∗ positions c j ∗ recvCred c j ∗ keptSlot c j)
      ⊢ iprop(((Ow c 0 ∗ srcPts c j (T c) ∗ landedSlot T c j ∗ closed c j)
            -∗ wp frame (wpE (defs₀ (F := F)) 𝒱₀ (c : Thread nD τ) none) Set.univ k Q)
        -∗ wp frame (wpE (defs₀ (F := F)) 𝒱₀ (c : Thread nD τ) none) Set.univ
          (if h : b = 1#1 then (Prog.lift (.waitDma2 (semOf cc0_scratch2 soff hsoff) (src₁ h) tM (hsrc₁ h) (hdst₁ h)) >>= fun _ =>
              Prog.lift (.waitDma2 (semOf cc0_scratch3 soff hsoff) tM (rowOf roff hroff) (hsrc₂ h) (hdst₂ h)) >>= fun _ => k) else k) Q) := by
  by_cases hj : j = c
  · rw [dif_neg fun h => hb.mp h hj]
    subst hj
    unfold sent keptSlot anySlot positions landedSlot closed
    rw [if_pos rfl, if_pos rfl]
    iintro ⟨#HR, HO, Hs, ⟨HaS, HaV⟩, -, ⟨%f, Hf⟩⟩ Hk
    imod (Rounds.cell_close ER (Rd T) (g := sendCell j j) (Set.mem_univ (K (j, some (false, j)))) (fun h => h) (R := 0) (Rd_own T j false)) $$ [HaS] with HzS
    · isplitr; · iapply (records_inv T K (j, some (false, j))); iexact HR
      iexact HaS
    imod (Rounds.cell_close ER (Rd T) (g := recvCell j j) (Set.mem_univ (K (j, some (true, j)))) (fun h => h) (R := 0) (Rd_own T j true)) $$ [HaV] with HzV
    · isplitr; · iapply (records_inv T K (j, some (true, j))); iexact HR
      iexact HaV
    iapply Hk
    isplitl [HO]; · iexact HO
    isplitl [Hs]; · iexact Hs
    isplitl [Hf]
    · iexists f; isplitr; · ipureintro; exact fun h => absurd rfl h
      iexact Hf
    isplitl [HzS] <;> iassumption
  · rw [dif_pos (hb.mpr hj)]
    have e1 := sendSem_eq hs hsoff
    have e2 := recvSem_eq hs hsoff
    change semOf cc0_scratch2 soff hsoff = sendS j at e1
    change semOf cc0_scratch3 soff hsoff = recvS j at e2
    rw [e1, e2]
    simp only [Prog.lift, Prog.bind_op, Prog.bind_ret]
    unfold sent keptSlot recvCred positions landedSlot closed Ow
    rw [if_neg hj, if_neg hj, if_neg hj]
    iintro ⟨#HR, ⟨%W, HO⟩, HcS, ⟨HaS, HaV⟩, HcV, -⟩ Hk
    iapply (Rounds.wp_wait_rest_token 𝒱₀ ER (Rd T) (c : Thread nD τ) none (sm := .dma (sendS j)) (κ := K (c, some (false, j)))
        (wpE_waitDma2_eq 𝒱₀ (c : Thread nD τ) none Set.univ) (Set.mem_univ _) () (O := 0) (W := W) (R := 0) (m := 0) (T := ∅)
        (by rw [Nat.zero_add]; exact (expect_send T hj).symm)) $$ [HcS HO HaS]
    · isplitr; · iapply (records_inv T K (c, some (false, j))); iexact HR
      isplitl [HcS]; · iexact HcS
      isplitl [HO]; · iexact HO
      isplitr; · rw [MayWait_zero]; iempintro
      iexact HaS
    iintro ⟨HO, HaS, -, Hpay⟩
    ihave Hs := (Entails.of_eq ((Rd_rest T c (some (false, j))).trans (by
      dsimp only [dutiesOf]; rw [if_neg hj, bigSep_singleton]; rfl) : _ = srcPts c j (T c))) $$ Hpay
    iapply (Rounds.wp_wait_rest_token 𝒱₀ ER (Rd T) (c : Thread nD τ) none (sm := .dma (recvS j)) (κ := K (c, some (true, j)))
        (wpE_waitDma2_eq 𝒱₀ (c : Thread nD τ) none Set.univ) (Set.mem_univ _) () (O := 0) (R := 0) (m := 0) (T := ∅)
        (by rw [Nat.zero_add]; exact (expect_recv T hj).symm)) $$ [HcV HO HaV]
    · isplitr; · iapply (records_inv T K (c, some (true, j))); iexact HR
      isplitl [HcV]; · iexact HcV
      isplitl [HO]; · iexact HO
      isplitr; · rw [MayWait_zero]; iempintro
      iexact HaV
    iintro ⟨HO, HaV, -, Hpay⟩
    ihave Hf := (Entails.of_eq ((Rd_rest T c (some (true, j))).trans (by
      dsimp only [dutiesOf]; rw [if_neg hj, bigSep_singleton]; rfl) : _ = slotPts c j (rowsOf (T j)))) $$ Hpay
    imod (Rounds.cell_close ER (Rd T) (g := sendCell c j) (Set.mem_univ (K (c, some (false, j)))) (fun h => h) (R := 0 + 1) (Rd_later T _)) $$ [HaS] with HzS
    · isplitr; · iapply (records_inv T K (c, some (false, j))); iexact HR
      iexact HaS
    imod (Rounds.cell_close ER (Rd T) (g := recvCell c j) (Set.mem_univ (K (c, some (true, j)))) (fun h => h) (R := 0 + 1) (Rd_later T _)) $$ [HaV] with HzV
    · isplitr; · iapply (records_inv T K (c, some (true, j))); iexact HR
      iexact HaV
    iapply Hk
    isplitl [HO]; · iexists _; iexact HO
    isplitl [Hs]; · iexact Hs
    isplitl [Hf]
    · iexists (rowsOf (T j)); isplitr; · ipureintro; exact fun _ => rfl
      iexact Hf
    isplitl [HzS] <;> iassumption

end Steps

end Cert.PrefixProof

end
-- ==== Proof.Signals.lean ====
/-
# The twenty-four conditionals, and the signals

Each of the program's conditionals asks whether the device at hand differs from a fixed device. Then the first part of
the body: it signals every other device's barrier, each time giving away a slot of the landing array, and waits for
the seven units of its own, which bring its slot on every other device.
-/
module

public import proofs.«01_k».proof.Proof.Steps

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → FVec F S1x1024 .f32) (K : Dev nD × CK → ℕ)

/-! ## The conditionals -/

theorem cond1_iff (c : Dev nD) : k0_cond1 c = 1#1 ↔ (0 : Dev nD) ≠ c := by revert c; decide +kernel
theorem cond2_iff (c : Dev nD) : k0_cond2 c = 1#1 ↔ (1 : Dev nD) ≠ c := by revert c; decide +kernel
theorem cond3_iff (c : Dev nD) : k0_cond3 c = 1#1 ↔ (2 : Dev nD) ≠ c := by revert c; decide +kernel
theorem cond4_iff (c : Dev nD) : k0_cond4 c = 1#1 ↔ (3 : Dev nD) ≠ c := by revert c; decide +kernel
theorem cond5_iff (c : Dev nD) : k0_cond5 c = 1#1 ↔ (4 : Dev nD) ≠ c := by revert c; decide +kernel
theorem cond6_iff (c : Dev nD) : k0_cond6 c = 1#1 ↔ (5 : Dev nD) ≠ c := by revert c; decide +kernel
theorem cond7_iff (c : Dev nD) : k0_cond7 c = 1#1 ↔ (6 : Dev nD) ≠ c := by revert c; decide +kernel
theorem cond8_iff (c : Dev nD) : k0_cond8 c = 1#1 ↔ (7 : Dev nD) ≠ c := by revert c; decide +kernel
theorem cond9_iff (c : Dev nD) : k0_cond9 c = 1#1 ↔ (0 : Dev nD) ≠ c := by revert c; decide +kernel
theorem cond10_iff (c : Dev nD) : k0_cond10 c = 1#1 ↔ (1 : Dev nD) ≠ c := by revert c; decide +kernel
theorem cond11_iff (c : Dev nD) : k0_cond11 c = 1#1 ↔ (2 : Dev nD) ≠ c := by revert c; decide +kernel
theorem cond12_iff (c : Dev nD) : k0_cond12 c = 1#1 ↔ (3 : Dev nD) ≠ c := by revert c; decide +kernel
theorem cond13_iff (c : Dev nD) : k0_cond13 c = 1#1 ↔ (4 : Dev nD) ≠ c := by revert c; decide +kernel
theorem cond14_iff (c : Dev nD) : k0_cond14 c = 1#1 ↔ (5 : Dev nD) ≠ c := by revert c; decide +kernel
theorem cond15_iff (c : Dev nD) : k0_cond15 c = 1#1 ↔ (6 : Dev nD) ≠ c := by revert c; decide +kernel
theorem cond16_iff (c : Dev nD) : k0_cond16 c = 1#1 ↔ (7 : Dev nD) ≠ c := by revert c; decide +kernel
theorem cond17_iff (c : Dev nD) : k0_cond17 c = 1#1 ↔ (0 : Dev nD) ≠ c := by revert c; decide +kernel
theorem cond18_iff (c : Dev nD) : k0_cond18 c = 1#1 ↔ (1 : Dev nD) ≠ c := by revert c; decide +kernel
theorem cond19_iff (c : Dev nD) : k0_cond19 c = 1#1 ↔ (2 : Dev nD) ≠ c := by revert c; decide +kernel
theorem cond20_iff (c : Dev nD) : k0_cond20 c = 1#1 ↔ (3 : Dev nD) ≠ c := by revert c; decide +kernel
theorem cond21_iff (c : Dev nD) : k0_cond21 c = 1#1 ↔ (4 : Dev nD) ≠ c := by revert c; decide +kernel
theorem cond22_iff (c : Dev nD) : k0_cond22 c = 1#1 ↔ (5 : Dev nD) ≠ c := by revert c; decide +kernel
theorem cond23_iff (c : Dev nD) : k0_cond23 c = 1#1 ↔ (6 : Dev nD) ≠ c := by revert c; decide +kernel
theorem cond24_iff (c : Dev nD) : k0_cond24 c = 1#1 ↔ (7 : Dev nD) ≠ c := by revert c; decide +kernel

/-! ## Eight at a time -/

omit [FloatOps F] in
theorem eight (Φ : Dev nD → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL ([0, 1, 2, 3, 4, 5, 6, 7] : List (Dev nD)) (by decide) (by decide) Φ

omit [FloatOps F] in
/-- What all devices but one give, gated over all of them. -/
theorem gated_of_erase (c : Dev nD) (Φ : Dev nD → sProp 𝕄) :
    bigSep (Finset.univ.erase c) Φ ⊢ bigSep Finset.univ fun j => if j = c then iprop(emp) else Φ j := by
  rw [bigSep_erase (s := Finset.univ) (Finset.mem_univ c), if_pos rfl,
    bigSep_congr (fun j hj => (if_neg (Finset.ne_of_mem_erase hj) : (if j = c then iprop(emp) else Φ j) = Φ j))]
  show bigSep (Finset.univ.erase c) Φ ⊢ iprop(emp ∗ bigSep (Finset.univ.erase c) Φ)
  iintro H
  isplitr; · iempintro
  iexact H

/-- A device's index, as the program computes it. -/
def idxWord (c : Dev nD) : BitVec 32 := Scalar.remsi (Scalar.divsi (Dev.word c) 1#32) 8#32

section Part
variable (c : Dev nD)

set_option maxHeartbeats 1600000 in
theorem signals_run (Q : (Σ' (d0 : Dev nD), BitVec 32) → sProp 𝕄) :
    iprop(records T K ∗ levAts L lv ∗ Ow c (O₀ c) ∗ (bigSep Finset.univ fun j => anySlot c j) ∗ (bigSep Finset.univ fun j => sigTok (F := F) c j)
        ∗ cred (tallyAt (barCell c) () 7) ∗ atPos ER (barCell c) 0 ∅ 0)
      ⊢ iprop(((Ow c (O₁ c) ∗ (bigSep Finset.univ fun j => keptSlot c j) ∗ (bigSep Finset.univ fun j => peerSlot c j) ∗ semVal (barCell c) 0)
            -∗ Q ⟨c, idxWord c⟩)
        -∗ wp frame (wpE (defs₀ (F := F)) 𝒱₀ (c : Thread nD τ) none) Set.univ
          (k0_part2 xM (Memref.isWhole_whole _) oM (Memref.isWhole_whole _) tM (Memref.isWhole_whole _) rM (Memref.isWhole_whole _) cc0_scratch2 cc0_scratch3) Q) := by
  rw [k0_part2_eq_skeleton]
  unfold k0_part2_skel
  simp only [eight]
  unfold O₀
  simp only [Prog.lift, Prog.bind_op, Prog.bind_ret, wp_deviceId]
  iintro ⟨#HR, #Hlev, HO, ⟨HA0, HA1, HA2, HA3, HA4, HA5, HA6, HA7⟩, ⟨HS0, HS1, HS2, HS3, HS4, HS5, HS6, HS7⟩, Hc, Hat⟩ Hk
  iapply (step_signal T K (cond1_iff c) (n := k0_dev1) k0_dev1_eq (k0_dev1_lt c) _) $$ [HO HA0 HS0]
  · isplitr; · iexact HR
    isplitl [HO]; · iexact HO
    isplitl [HA0] <;> iassumption
  iintro ⟨HO, HK0⟩
  iapply (step_signal T K (cond2_iff c) (n := k0_dev2) k0_dev2_eq (k0_dev2_lt c) _) $$ [HO HA1 HS1]
  · isplitr; · iexact HR
    isplitl [HO]; · iexact HO
    isplitl [HA1] <;> iassumption
  iintro ⟨HO, HK1⟩
  iapply (step_signal T K (cond3_iff c) (n := k0_dev3) k0_dev3_eq (k0_dev3_lt c) _) $$ [HO HA2 HS2]
  · isplitr; · iexact HR
    isplitl [HO]; · iexact HO
    isplitl [HA2] <;> iassumption
  iintro ⟨HO, HK2⟩
  iapply (step_signal T K (cond4_iff c) (n := k0_dev4) k0_dev4_eq (k0_dev4_lt c) _) $$ [HO HA3 HS3]
  · isplitr; · iexact HR
    isplitl [HO]; · iexact HO
    isplitl [HA3] <;> iassumption
  iintro ⟨HO, HK3⟩
  iapply (step_signal T K (cond5_iff c) (n := k0_dev5) k0_dev5_eq (k0_dev5_lt c) _) $$ [HO HA4 HS4]
  · isplitr; · iexact HR
    isplitl [HO]; · iexact HO
    isplitl [HA4] <;> iassumption
  iintro ⟨HO, HK4⟩
  iapply (step_signal T K (cond6_iff c) (n := k0_dev6) k0_dev6_eq (k0_dev6_lt c) _) $$ [HO HA5 HS5]
  · isplitr; · iexact HR
    isplitl [HO]; · iexact HO
    isplitl [HA5] <;> iassumption
  iintro ⟨HO, HK5⟩
  iapply (step_signal T K (cond7_iff c) (n := k0_dev7) k0_dev7_eq (k0_dev7_lt c) _) $$ [HO HA6 HS6]
  · isplitr; · iexact HR
    isplitl [HO]; · iexact HO
    isplitl [HA6] <;> iassumption
  iintro ⟨HO, HK6⟩
  iapply (step_signal T K (cond8_iff c) (n := k0_dev8) k0_dev8_eq (k0_dev8_lt c) _) $$ [HO HA7 HS7]
  · isplitr; · iexact HR
    isplitl [HO]; · iexact HO
    isplitl [HA7] <;> iassumption
  iintro ⟨HO, HK7⟩
  unfold Ow
  icases HO with ⟨%W, HO⟩
  simp only [semWaitWord, Prog.lift, Prog.bind_op, Prog.bind_ret, Prog.pure_eq_ret]
  iapply (Rounds.wp_wait_rest_token 𝒱₀ ER (Rd T) (c : Thread nD τ) none (sm := .reg barS) (κ := K (c, none))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iapply (records_inv T K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (Rd_rest T c none)) $$ Hpay
  ihave Hp := (gated_of_erase c fun d => anySlot d c) $$ [Hp]
  · unfold payOf anySlot; iexact Hp
  imod (Rounds.cell_close ER (Rd T) (g := barCell c) (Set.mem_univ (K (c, none))) (fun h => h) (R := 0 + 1) (Rd_later T _)) $$ [Hat] with Hz
  · isplitr; · iapply (records_inv T K (c, none)); iexact HR
    iexact Hat
  rw [wp_ret]; imodintro
  unfold idxWord
  iapply Hk
  isplitl [HO]; · iexists _; iexact HO
  isplitl [HK0 HK1 HK2 HK3 HK4 HK5 HK6 HK7]
  · isplitl [HK0]; · iexact HK0
    isplitl [HK1]; · iexact HK1
    isplitl [HK2]; · iexact HK2
    isplitl [HK3]; · iexact HK3
    isplitl [HK4]; · iexact HK4
    isplitl [HK5]; · iexact HK5
    isplitl [HK6]; · iexact HK6
    iexact HK7
  isplitl [Hp]
  · rw [← eight]; unfold peerSlot; iexact Hp
  iexact Hz

end Part

end Cert.PrefixProof

end
-- ==== Proof.Sends.lean ====
/-
# The total, its copies, and the first block

The second and third part of the body: the device multiplies its block of rows into the total, starts the copies of it
to the other devices, and begins the products of its first block of rows.
-/
module

public import proofs.«01_k».proof.Proof.Signals

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → FVec F S1x1024 .f32) (K : Dev nD × CK → ℕ)

/-- A whole buffer of device `c`. -/
abbrev wholePts (c : Dev nD) (b : Ref sig .tc) (f : b.ty.Contents (Elt F)) : sProp 𝕄 := ((c : Thread nD τ).loc b) ↦{fullShare} f

/-- What is still owed after the first two copies. -/
def O₂ (c : Dev nD) : CellTallies nD τ sig Unit :=
  (((((0 + owRecv c 7) + owRecv c 6) + owRecv c 5) + owRecv c 4) + owRecv c 3) + owRecv c 2

theorem O₁_eq (c : Dev nD) : O₁ c = (O₂ c + owRecv c 1) + owRecv c 0 := rfl

omit [FloatOps F] in
theorem hz2 : (![0, 0] : Fin 2 → Nat) = fun _ => 0 := funext fun a => by fin_cases a <;> rfl

omit [FloatOps F] in
theorem tot_shares (c : Dev nD) (t : FVec F S1x1024 .f32) :
    (wholePts c cc0_scratch0 t : sProp 𝕄) = bigSep Finset.univ fun j : Dev nD => srcPts c j t := by
  rw [← src_shares]
  exact congrArg (fun I => (((c : Thread nD τ).loc cc0_scratch0) ↦[I]{fullShare} t : sProp 𝕄)) (View.set_whole cc0_scratch0).symm

/-- The rows of the first block. -/
def headOf (X : FVec F S4096x1024 .f32) : FVec F S512x1024 .f32 :=
  xM.view.readAt (Elt F) (Rect.unit (s := S4096x1024) ![0, 0] S512x1024.size inb_S4096x1024_S512x1024_0_0).toLoadRect X

section Part
variable (c : Dev nD)

set_option maxHeartbeats 1600000 in
theorem sends_run₁ (X : FVec F S4096x1024 .f32) (hT : T c = k0_pay5 X) (v2 : BitVec 32) (Q : (Σ' (v76 : BitVec 32), BitVec 32) → sProp 𝕄) :
    iprop(records T K ∗ Ow c (O₁ c) ∗ wholePts c cc0_stg0_0 X ∗ (∃ f, wholePts c cc0_scratch0 f)
        ∗ peerSlot (F := F) c 0 ∗ peerSlot (F := F) c 1 ∗ sendTok (F := F) c 0 ∗ sendTok (F := F) c 1)
      ⊢ iprop(((∀ p, (Ow c (O₂ c) ∗ wholePts c cc0_stg0_0 X ∗ sent T c 0 ∗ sent T c 1 ∗ srcPts c 2 (T c) ∗ srcPts c 3 (T c) ∗ srcPts c 4 (T c) ∗ srcPts c 5 (T c) ∗ srcPts c 6 (T c) ∗ srcPts c 7 (T c)) -∗ Q p))
        -∗ wp frame (wpE (defs₀ (F := F)) 𝒱₀ (c : Thread nD τ) none) Set.univ
          (k0_part3 xM (Memref.isWhole_whole _) oM (Memref.isWhole_whole _) tM (Memref.isWhole_whole _) rM (Memref.isWhole_whole _) cc0_scratch2 cc0_scratch3 c v2) Q) := by
  rw [k0_part3_eq_skeleton, O₁_eq]
  unfold k0_part3_skel
  simp only [Prog.lift, Prog.bind_op, Prog.bind_ret, Prog.pure_eq_ret]
  iintro ⟨#HR, HO, Hx, ⟨%f, Ht⟩, HP0, HP1, HS0, HS1⟩ Hk
  iapply (wp_load 𝒱₀ (c : Thread nD τ) none Set.univ (m := xM) (Finset.subset_univ _)) $$ Hx; iintro Hx
  rw [show ∀ g, xM.view.readAt (Elt F) (Rect.unit (s := S4096x1024) ![0, 0] S4096x1024.size inb_S4096x1024_S4096x1024_0_0).toLoadRect g = g from
    fun g => Memref.readAt_unit_zero (Elt F) cc0_stg0_0 hz2 _ g]
  iapply (wp_load 𝒱₀ (c : Thread nD τ) none Set.univ (m := tM) (Finset.subset_univ _)) $$ Ht; iintro Ht
  iapply (wp_store 𝒱₀ (c : Thread nD τ) none Set.univ (m := tM) (r := Rect.unit (s := S1x1024) ![0, 0] S1x1024.size inb_S1x1024_S1x1024_0_0)
      (Mk := Finset.univ) (Finset.subset_univ _)) $$ Ht; iintro Ht
  rw [show ∀ g w, ((tM : Memref sig .tc .vmem S1x1024 .f32).access (Rect.unit (s := S1x1024) ![0, 0] S1x1024.size inb_S1x1024_S1x1024_0_0) : View sig .tc _ _ _).write
      (Elt F) g w Finset.univ = w from fun g w => Memref.write_access_unit_zero_univ (Elt F) cc0_scratch0 hz2 _ g w, ← hT]
  ihave Hs := (Entails.of_eq ((tot_shares c (T c)).trans (eight _))) $$ Ht
  icases Hs with ⟨HX0, HX1, HX2, HX3, HX4, HX5, HX6, HX7⟩
  iapply (step_send T K (cond9_iff c) (soff := ![0]) rfl (k0_off1_eq c) (k0_off2_eq c) (n := k0_dev9) k0_dev9_eq _) $$ [HO HX0 HP0 HS0]
  · isplitr; · iexact HR
    isplitl [HO]; · iexact HO
    isplitl [HX0]; · iexact HX0
    isplitl [HP0] <;> iassumption
  iintro ⟨HO, HX0⟩
  iapply (step_send T K (cond10_iff c) (soff := ![1]) rfl (k0_off3_eq c) (k0_off4_eq c) (n := k0_dev10) k0_dev10_eq _) $$ [HO HX1 HP1 HS1]
  · isplitr; · iexact HR
    isplitl [HO]; · iexact HO
    isplitl [HX1]; · iexact HX1
    isplitl [HP1] <;> iassumption
  iintro ⟨HO, HX1⟩
  rw [wp_ret]; imodintro
  iapply Hk
  isplitl [HO]; · iexact HO
  isplitl [Hx]; · iexact Hx
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  iexact HX7

set_option maxHeartbeats 1600000 in
theorem sends_run₂ (X : FVec F S4096x1024 .f32) (v2 v76 z : BitVec 32)
    (Q : (Σ' (v110 : FVec F S512x1024 .f32), FVec F S512x1024 .f32) → sProp 𝕄) :
    iprop(records T K ∗ Ow c (O₂ c) ∗ wholePts c cc0_stg0_0 X ∗ srcPts c 2 (T c) ∗ srcPts c 3 (T c) ∗ srcPts c 4 (T c) ∗ srcPts c 5 (T c) ∗ srcPts c 6 (T c) ∗ srcPts c 7 (T c)
        ∗ peerSlot (F := F) c 2 ∗ peerSlot (F := F) c 3 ∗ peerSlot (F := F) c 4 ∗ peerSlot (F := F) c 5 ∗ peerSlot (F := F) c 6 ∗ peerSlot (F := F) c 7 ∗ sendTok (F := F) c 2 ∗ sendTok (F := F) c 3 ∗ sendTok (F := F) c 4 ∗ sendTok (F := F) c 5 ∗ sendTok (F := F) c 6 ∗ sendTok (F := F) c 7)
      ⊢ iprop(((Ow c 0 ∗ wholePts c cc0_stg0_0 X ∗ sent T c 2 ∗ sent T c 3 ∗ sent T c 4 ∗ sent T c 5 ∗ sent T c 6 ∗ sent T c 7) -∗ Q ⟨k0_pay6 (headOf X), k0_pay7 (headOf X)⟩)
        -∗ wp frame (wpE (defs₀ (F := F)) 𝒱₀ (c : Thread nD τ) none) Set.univ
          (k0_part4 xM (Memref.isWhole_whole _) oM (Memref.isWhole_whole _) tM (Memref.isWhole_whole _) rM (Memref.isWhole_whole _) cc0_scratch2 cc0_scratch3 c v2 v76 z) Q) := by
  rw [k0_part4_eq_skeleton]
  unfold k0_part4_skel O₂
  simp only [Prog.lift, Prog.bind_op, Prog.bind_ret, Prog.pure_eq_ret]
  iintro ⟨#HR, HO, Hx, HX2, HX3, HX4, HX5, HX6, HX7, HP2, HP3, HP4, HP5, HP6, HP7, HS2, HS3, HS4, HS5, HS6, HS7⟩ Hk
  iapply (step_send T K (cond11_iff c) (soff := ![2]) rfl (k0_off5_eq c) (k0_off6_eq c) (n := k0_dev11) k0_dev11_eq _) $$ [HO HX2 HP2 HS2]
  · isplitr; · iexact HR
    isplitl [HO]; · iexact HO
    isplitl [HX2]; · iexact HX2
    isplitl [HP2] <;> iassumption
  iintro ⟨HO, HX2⟩
  iapply (step_send T K (cond12_iff c) (soff := ![3]) rfl (k0_off7_eq c) (k0_off8_eq c) (n := k0_dev12) k0_dev12_eq _) $$ [HO HX3 HP3 HS3]
  · isplitr; · iexact HR
    isplitl [HO]; · iexact HO
    isplitl [HX3]; · iexact HX3
    isplitl [HP3] <;> iassumption
  iintro ⟨HO, HX3⟩
  iapply (step_send T K (cond13_iff c) (soff := ![4]) rfl (k0_off9_eq c) (k0_off10_eq c) (n := k0_dev13) k0_dev13_eq _) $$ [HO HX4 HP4 HS4]
  · isplitr; · iexact HR
    isplitl [HO]; · iexact HO
    isplitl [HX4]; · iexact HX4
    isplitl [HP4] <;> iassumption
  iintro ⟨HO, HX4⟩
  iapply (step_send T K (cond14_iff c) (soff := ![5]) rfl (k0_off11_eq c) (k0_off12_eq c) (n := k0_dev14) k0_dev14_eq _) $$ [HO HX5 HP5 HS5]
  · isplitr; · iexact HR
    isplitl [HO]; · iexact HO
    isplitl [HX5]; · iexact HX5
    isplitl [HP5] <;> iassumption
  iintro ⟨HO, HX5⟩
  iapply (step_send T K (cond15_iff c) (soff := ![6]) rfl (k0_off13_eq c) (k0_off14_eq c) (n := k0_dev15) k0_dev15_eq _) $$ [HO HX6 HP6 HS6]
  · isplitr; · iexact HR
    isplitl [HO]; · iexact HO
    isplitl [HX6]; · iexact HX6
    isplitl [HP6] <;> iassumption
  iintro ⟨HO, HX6⟩
  iapply (step_send T K (cond16_iff c) (soff := ![7]) rfl (k0_off15_eq c) (k0_off16_eq c) (n := k0_dev16) k0_dev16_eq _) $$ [HO HX7 HP7 HS7]
  · isplitr; · iexact HR
    isplitl [HO]; · iexact HO
    isplitl [HX7]; · iexact HX7
    isplitl [HP7] <;> iassumption
  iintro ⟨HO, HX7⟩
  iapply (wp_load 𝒱₀ (c : Thread nD τ) none Set.univ (m := xM) (Finset.subset_univ _)) $$ Hx; iintro Hx
  rw [wp_ret]; imodintro
  unfold headOf
  iapply Hk
  isplitl [HO]; · iexact HO
  isplitl [Hx]; · iexact Hx
  isplitl [HX2]; · iexact HX2
  isplitl [HX3]; · iexact HX3
  isplitl [HX4]; · iexact HX4
  isplitl [HX5]; · iexact HX5
  isplitl [HX6]; · iexact HX6
  iexact HX7

end Part

end Cert.PrefixProof

end
-- ==== Proof.Blocks.lean ====
/-
# The eight blocks of a device's result

A device's result is made block by block of 512 rows: the first block's products times the product of the totals of
the devices before, each later block's products times the last row of the block before. Here are the blocks as
functions of the totals and the device's rows, and how they are read from and written into the buffers.
-/
module

public import proofs.«01_k».proof.Proof.Sends

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

variable (T : Dev nD → FVec F S1x1024 .f32) (c : Dev nD) (X : FVec F S4096x1024 .f32)

/-! ## The product of the totals before -/

def onesRow : FVec F S1x1024 .f32 := broadcast S1x1024 (Scalar.ofBits .f32 0x3F800000#32)

/-- The row `t` if device `j` comes before `c`, else ones. -/
def gate (c j : Dev nD) (t : FVec F S1x1024 .f32) : FVec F S1x1024 .f32 := if j < c then t else onesRow

def prefRow : FVec F S1x1024 .f32 :=
  mulf (mulf (mulf (mulf (mulf (mulf (mulf onesRow (gate c 0 (T 0))) (gate c 1 (T 1))) (gate c 2 (T 2))) (gate c 3 (T 3))) (gate c 4 (T 4)))
    (gate c 5 (T 5))) (gate c 6 (T 6))

theorem gate_eq {b : BitVec 1} {c j : Dev nD} (hb : b = 1 ↔ j < c) {a : FVec F S1x1x1024 .f32} {t : FVec F S1x1024 .f32} (ha : j ≠ c → a = rowVec t) :
    Scalar.select b (shapeCast S1x1024 a shapeCasts_S1x1x1024_S1x1024) (onesRow (F := F)) = gate c j t := by
  unfold Scalar.select gate
  by_cases h : j < c
  · rw [if_pos (hb.mpr h), if_pos h, ha (ne_of_lt h), rowVec_cast]
  · rw [if_neg fun h' => h (hb.mp h'), if_neg h]

theorem before0_iff (c : Dev nD) : Scalar.cmpi .sgt (idxWord c) 0#32 = 1 ↔ (0 : Dev nD) < c := by revert c; decide +kernel
theorem before1_iff (c : Dev nD) : Scalar.cmpi .sgt (idxWord c) 1#32 = 1 ↔ (1 : Dev nD) < c := by revert c; decide +kernel
theorem before2_iff (c : Dev nD) : Scalar.cmpi .sgt (idxWord c) 2#32 = 1 ↔ (2 : Dev nD) < c := by revert c; decide +kernel
theorem before3_iff (c : Dev nD) : Scalar.cmpi .sgt (idxWord c) 3#32 = 1 ↔ (3 : Dev nD) < c := by revert c; decide +kernel
theorem before4_iff (c : Dev nD) : Scalar.cmpi .sgt (idxWord c) 4#32 = 1 ↔ (4 : Dev nD) < c := by revert c; decide +kernel
theorem before5_iff (c : Dev nD) : Scalar.cmpi .sgt (idxWord c) 5#32 = 1 ↔ (5 : Dev nD) < c := by revert c; decide +kernel
theorem before6_iff (c : Dev nD) : Scalar.cmpi .sgt (idxWord c) 6#32 = 1 ↔ (6 : Dev nD) < c := by revert c; decide +kernel

/-- The first block's products times the row of the totals before. -/
def headTimes (v : FVec F S512x1024 .f32) : FVec F S512x1024 .f32 := mulf v (broadcastTo S512x1024 (prefRow T c) broadcasts_S1x1024_S512x1024)

theorem pay1_eq {a0 a1 a2 a3 a4 a5 a6 : FVec F S1x1x1024 .f32} (v : FVec F S512x1024 .f32)
    (h0 : (0 : Dev nD) ≠ c → a0 = rowVec (T 0))
    (h1 : (1 : Dev nD) ≠ c → a1 = rowVec (T 1))
    (h2 : (2 : Dev nD) ≠ c → a2 = rowVec (T 2))
    (h3 : (3 : Dev nD) ≠ c → a3 = rowVec (T 3))
    (h4 : (4 : Dev nD) ≠ c → a4 = rowVec (T 4))
    (h5 : (5 : Dev nD) ≠ c → a5 = rowVec (T 5))
    (h6 : (6 : Dev nD) ≠ c → a6 = rowVec (T 6)) :
    k0_pay1 (idxWord c) v (k0_pay9 (idxWord c) a0 a1 a2 a3) (Scalar.cmpi .sgt (idxWord c) 4#32) a4 a5 a6 = headTimes T c v := by
  unfold headTimes prefRow
  rw [← gate_eq (before0_iff c) h0, ← gate_eq (before1_iff c) h1, ← gate_eq (before2_iff c) h2, ← gate_eq (before3_iff c) h3, ← gate_eq (before4_iff c) h4, ← gate_eq (before5_iff c) h5, ← gate_eq (before6_iff c) h6]
  rfl

/-! ## The blocks -/

/-- Rows `512 k …` of the device's block of rows (for `k < 8`). -/
def blockOf (k : ℕ) : FVec F S512x1024 .f32 := fun y =>
  X (ix2 (n0 := 4096) (n1 := 1024) ⟨(512 * k + (y 0).val) % 4096, Nat.mod_lt _ (by decide)⟩ (y 1))

/-- The result's block `k`. -/
def blk : ℕ → FVec F S512x1024 .f32
  | 0 => headTimes T c (k0_pay8 (k0_pay6 (blockOf X 0)) (k0_pay7 (blockOf X 0)))
  | k + 1 => k0_pay4 (k0_pay3 (blk k)) (blockOf X (k + 1))

/-- The device's result. -/
def outOf : FVec F S4096x1024 .f32 := fun i =>
  blk T c X ((i 0).val / 512) (ix2 (n0 := 512) (n1 := 1024) ⟨(i 0).val % 512, Nat.mod_lt _ (by decide)⟩ (i 1))

theorem off_inb (k : ℕ) (hk : k < 8) : ∀ a, (![512 * k, 0] : Fin 2 → ℕ) a + S512x1024.size a ≤ S4096x1024.size a := by
  intro a
  match a with
  | ⟨0, _⟩ => show 512 * k + 512 ≤ 4096; omega
  | ⟨1, _⟩ => show 0 + 1024 ≤ 1024; omega

abbrev blockRect {off : Fin 2 → ℕ} (h : ∀ a, off a + S512x1024.size a ≤ S4096x1024.size a) : Rect S4096x1024 :=
  Rect.unit (s := S4096x1024) off S512x1024.size h

theorem blockRect_emb {off : Fin 2 → ℕ} (h : ∀ a, off a + S512x1024.size a ≤ S4096x1024.size a) {k : ℕ} (hk : k < 8) (ho : off = ![512 * k, 0]) (y : S512x1024.Idx) :
    (blockRect h).emb y = ix2 (n0 := 4096) (n1 := 1024) ⟨(512 * k + (y 0).val) % 4096, Nat.mod_lt _ (by decide)⟩ (y 1) := by
  subst ho
  have hy : (y 0).val < 512 := (y 0).isLt
  funext a
  refine Fin.ext ?_
  rw [Rect.emb_apply]
  match a with
  | ⟨0, _⟩ =>
    show 512 * k + 1 * (y 0).val = (512 * k + (y 0).val) % 4096
    rw [Nat.mod_eq_of_lt (by omega)]; omega
  | ⟨1, _⟩ => show 0 + 1 * (y 1).val = (y 1).val; omega

omit [FloatOps F] in
theorem block_read {off : Fin 2 → ℕ} (h : ∀ a, off a + S512x1024.size a ≤ S4096x1024.size a) {k : ℕ} (hk : k < 8) (ho : off = ![512 * k, 0]) :
    xM.view.readAt (Elt F) (blockRect h).toLoadRect X = blockOf X k := by
  funext y
  show X ((blockRect h).emb y) = _
  rw [blockRect_emb h hk ho]; rfl

theorem headOf_eq : headOf X = blockOf X 0 := block_read X _ (by decide) rfl

omit [FloatOps F] in
/-- A block written: its rows are the block's, the others stay. -/
theorem block_write {off : Fin 2 → ℕ} (h : ∀ a, off a + S512x1024.size a ≤ S4096x1024.size a) {k : ℕ} (hk : k < 8) (ho : off = ![512 * k, 0])
    (f : FVec F S4096x1024 .f32) (w : FVec F S512x1024 .f32) (i : S4096x1024.Idx) :
    ((oM.access (blockRect h) : View sig .tc _ _ _).write (Elt F) f w Finset.univ : FVec F S4096x1024 .f32) i
      = if (i 0).val / 512 = k then w (ix2 (n0 := 512) (n1 := 1024) ⟨(i 0).val % 512, Nat.mod_lt _ (by decide)⟩ (i 1)) else f i := by
  have hi : (i 0).val < 4096 := (i 0).isLt
  by_cases hb : (i 0).val / 512 = k
  · rw [if_pos hb]
    have he : i = (oM.access (blockRect h)).emb (ix2 (n0 := 512) (n1 := 1024) ⟨(i 0).val % 512, Nat.mod_lt _ (by decide)⟩ (i 1)) := by
      show i = (blockRect h).emb _
      rw [blockRect_emb h hk ho]
      funext a
      match a with
      | ⟨0, _⟩ => exact Fin.ext (by
          show (i 0).val = (512 * k + (i 0).val % 512) % 4096
          rw [Nat.mod_eq_of_lt (by omega)]; omega)
      | ⟨1, _⟩ => rfl
    conv_lhs => rw [he]
    exact View.write_emb_of_mem _ _ (Finset.mem_univ _)
  · rw [if_neg hb]
    refine View.write_of_not_mem _ _ _ fun hm => hb ?_
    obtain ⟨y, -, hy⟩ := Finset.mem_map.mp hm
    have hy0 : (y 0).val < 512 := (y 0).isLt
    have h0 : i = ix2 (n0 := 4096) (n1 := 1024) ⟨(512 * k + (y 0).val) % 4096, Nat.mod_lt _ (by decide)⟩ (y 1) :=
      hy.symm.trans (blockRect_emb h hk ho y)
    rw [h0]
    show (512 * k + (y 0).val) % 4096 / 512 = k
    rw [Nat.mod_eq_of_lt (by omega)]; omega

end Cert.PrefixProof

end
-- ==== Proof.Waits.lean ====
/-
# The waits, and the totals read

The fourth and fifth part of the body: the device waits for each of its copies to have left and for each other
device's total to have landed, and reads the landed totals.
-/
module

public import proofs.«01_k».proof.Proof.Blocks

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → FVec F S1x1024 .f32) (K : Dev nD × CK → ℕ)

/-- What the waits towards device `j` take, and what they give. -/
abbrev waitPre (c j : Dev nD) : sProp 𝕄 := iprop(sent T c j ∗ positions c j ∗ recvCred c j ∗ keptSlot c j)
abbrev waitPost (c j : Dev nD) : sProp 𝕄 := iprop(srcPts c j (T c) ∗ landedSlot T c j ∗ closed c j)

/-- A landed slot read: the row another device's total is, anything in the device's own slot. -/
theorem load_slot {c j : Dev nD} {off : Fin 3 → ℕ} (ho : off = ![j.val, 0, 0]) {inb : ∀ a, off a + S1x1x1024.size a ≤ S8x1x1024.size a}
    {hl : rM.view.LoadsAt (Rect.unit (s := S8x1x1024) off S1x1x1024.size inb).toLoadRect} {β : Type} {Q : β → sProp (MT nD τ sig Unit (Elt F) ℕ UU ℕ)}
    {k : FVec F S1x1x1024 .f32 → Prog (TpuEff nD τ sig (Elt F) Λ₀ .tc) β} :
    landedSlot T c j
      ⊢ iprop((∀ a, (⌜j ≠ c → a = rowVec (T j)⌝ ∗ landedSlot T c j) -∗ wp frame (wpE (defs₀ (F := F)) 𝒱₀ (c : Thread nD τ) none) Set.univ (k a) Q)
        -∗ wp frame (wpE (defs₀ (F := F)) 𝒱₀ (c : Thread nD τ) none) Set.univ
          (.op (.load rM (Rect.unit (s := S8x1x1024) off S1x1x1024.size inb).toLoadRect hl) k) Q) := by
  subst ho
  unfold landedSlot slotPts
  iintro ⟨%f, %hf, Hs⟩ Hk
  iapply (wp_load 𝒱₀ (c : Thread nD τ) none Set.univ (m := rM) (slot_load_sub j)) $$ Hs; iintro Hs
  iapply Hk
  isplitr
  · ipureintro
    intro hj
    rw [hf hj]; exact slot_read j (T j)
  iexists f
  isplitr; · ipureintro; exact hf
  iexact Hs

section Part
variable (c : Dev nD)

set_option maxHeartbeats 1600000 in
theorem waits_run₁ (v2 : BitVec 32) (v110 v113 : FVec F S512x1024 .f32) (Q : (Σ' (v130 : FVec F S512x1024 .f32), BitVec 32) → sProp 𝕄) :
    iprop(records T K ∗ Ow c 0 ∗ waitPre T c 0 ∗ waitPre T c 1 ∗ waitPre T c 2 ∗ waitPre T c 3 ∗ waitPre T c 4 ∗ waitPre T c 5)
      ⊢ iprop((∀ w, (Ow c 0 ∗ waitPost T c 0 ∗ waitPost T c 1 ∗ waitPost T c 2 ∗ waitPost T c 3 ∗ waitPost T c 4 ∗ waitPost T c 5) -∗ Q ⟨k0_pay8 v110 v113, w⟩)
        -∗ wp frame (wpE (defs₀ (F := F)) 𝒱₀ (c : Thread nD τ) none) Set.univ
          (k0_part5 xM (Memref.isWhole_whole _) oM (Memref.isWhole_whole _) tM (Memref.isWhole_whole _) rM (Memref.isWhole_whole _) cc0_scratch2 cc0_scratch3 c v2 v110 v113) Q) := by
  rw [k0_part5_eq_skeleton]
  unfold k0_part5_skel
  simp only [Prog.pure_eq_ret]
  iintro ⟨#HR, HO, HW0, HW1, HW2, HW3, HW4, HW5⟩ Hk
  iapply (step_wait T K (cond17_iff c) (j := 0) (soff := ![0]) rfl) $$ [HO HW0]
  · isplitr; · iexact HR
    isplitl [HO]; · iexact HO
    iexact HW0
  iintro ⟨HO, HW0⟩
  iapply (step_wait T K (cond18_iff c) (j := 1) (soff := ![1]) rfl) $$ [HO HW1]
  · isplitr; · iexact HR
    isplitl [HO]; · iexact HO
    iexact HW1
  iintro ⟨HO, HW1⟩
  iapply (step_wait T K (cond19_iff c) (j := 2) (soff := ![2]) rfl) $$ [HO HW2]
  · isplitr; · iexact HR
    isplitl [HO]; · iexact HO
    iexact HW2
  iintro ⟨HO, HW2⟩
  iapply (step_wait T K (cond20_iff c) (j := 3) (soff := ![3]) rfl) $$ [HO HW3]
  · isplitr; · iexact HR
    isplitl [HO]; · iexact HO
    iexact HW3
  iintro ⟨HO, HW3⟩
  iapply (step_wait T K (cond21_iff c) (j := 4) (soff := ![4]) rfl) $$ [HO HW4]
  · isplitr; · iexact HR
    isplitl [HO]; · iexact HO
    iexact HW4
  iintro ⟨HO, HW4⟩
  iapply (step_wait T K (cond22_iff c) (j := 5) (soff := ![5]) rfl) $$ [HO HW5]
  · isplitr; · iexact HR
    isplitl [HO]; · iexact HO
    iexact HW5
  iintro ⟨HO, HW5⟩
  rw [wp_ret]; imodintro
  iapply Hk
  isplitl [HO]; · iexact HO
  isplitl [HW0]; · iexact HW0
  isplitl [HW1]; · iexact HW1
  isplitl [HW2]; · iexact HW2
  isplitl [HW3]; · iexact HW3
  isplitl [HW4]; · iexact HW4
  iexact HW5

set_option maxHeartbeats 1600000 in
theorem waits_run₂ (v2 w : BitVec 32) (Q : (Σ' (v179 : FVec F S1x1024 .f32), BitVec 1) → sProp 𝕄) :
    iprop(records T K ∗ Ow c 0 ∗ landedSlot T c 0 ∗ landedSlot T c 1 ∗ landedSlot T c 2 ∗ landedSlot T c 3 ∗ waitPre T c 6 ∗ waitPre T c 7)
      ⊢ iprop((∀ a0 a1 a2 a3, (⌜(0 : Dev nD) ≠ c → a0 = rowVec (T 0)⌝ ∗ ⌜(1 : Dev nD) ≠ c → a1 = rowVec (T 1)⌝ ∗ ⌜(2 : Dev nD) ≠ c → a2 = rowVec (T 2)⌝ ∗ ⌜(3 : Dev nD) ≠ c → a3 = rowVec (T 3)⌝ ∗ Ow c 0 ∗ landedSlot T c 0 ∗ landedSlot T c 1 ∗ landedSlot T c 2 ∗ landedSlot T c 3 ∗ waitPost T c 6 ∗ waitPost T c 7)
            -∗ Q ⟨k0_pay9 v2 a0 a1 a2 a3, Scalar.cmpi .sgt v2 4#32⟩)
        -∗ wp frame (wpE (defs₀ (F := F)) 𝒱₀ (c : Thread nD τ) none) Set.univ
          (k0_part6 xM (Memref.isWhole_whole _) oM (Memref.isWhole_whole _) tM (Memref.isWhole_whole _) rM (Memref.isWhole_whole _) cc0_scratch2 cc0_scratch3 c v2 w) Q) := by
  rw [k0_part6_eq_skeleton]
  unfold k0_part6_skel
  simp only [Prog.pure_eq_ret]
  iintro ⟨#HR, HO, HL0, HL1, HL2, HL3, HW6, HW7⟩ Hk
  iapply (step_wait T K (cond23_iff c) (j := 6) (soff := ![6]) rfl) $$ [HO HW6]
  · isplitr; · iexact HR
    isplitl [HO]; · iexact HO
    iexact HW6
  iintro ⟨HO, HW6⟩
  iapply (step_wait T K (cond24_iff c) (j := 7) (soff := ![7]) rfl) $$ [HO HW7]
  · isplitr; · iexact HR
    isplitl [HO]; · iexact HO
    iexact HW7
  iintro ⟨HO, HW7⟩
  simp only [Prog.lift, Prog.bind_op, Prog.bind_ret]
  iapply (load_slot T (c := c) (j := 0) (off := ![0, 0, 0]) rfl) $$ HL0; iintro %a0 ⟨%h0, HL0⟩
  iapply (load_slot T (c := c) (j := 1) (off := ![1, 0, 0]) rfl) $$ HL1; iintro %a1 ⟨%h1, HL1⟩
  iapply (load_slot T (c := c) (j := 2) (off := ![2, 0, 0]) rfl) $$ HL2; iintro %a2 ⟨%h2, HL2⟩
  iapply (load_slot T (c := c) (j := 3) (off := ![3, 0, 0]) rfl) $$ HL3; iintro %a3 ⟨%h3, HL3⟩
  rw [wp_ret]; imodintro
  iapply Hk
  isplitr; · ipureintro; exact h0
  isplitr; · ipureintro; exact h1
  isplitr; · ipureintro; exact h2
  isplitr; · ipureintro; exact h3
  isplitl [HO]; · iexact HO
  isplitl [HL0]; · iexact HL0
  isplitl [HL1]; · iexact HL1
  isplitl [HL2]; · iexact HL2
  isplitl [HL3]; · iexact HL3
  isplitl [HW6]; · iexact HW6
  iexact HW7

end Part

end Cert.PrefixProof

end
-- ==== Proof.Body.lean ====
/-
# The body

A device's whole run of the kernel, its parts in order: from what it is given at launch to its result, with every
buffer and every counter back.
-/
module

public import proofs.«01_k».proof.Proof.Waits

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

variable (T : Dev nD → FVec F S1x1024 .f32) (K : Dev nD × CK → ℕ) (c : Dev nD) (X : FVec F S4096x1024 .f32)

/-! ## The loop over the later blocks -/

/-- Before trip `k` the result's first `k + 1` blocks are written, and the carried row is the last of them. -/
def loopInv (k : ℕ) (acc : FVec F S1x1024 .f32) : sProp 𝕄 :=
  iprop(∃ f : FVec F S4096x1024 .f32, ⌜acc = k0_pay3 (blk T c X k) ∧ ∀ i : S4096x1024.Idx, (i 0).val / 512 ≤ k → f i = outOf T c X i⌝
    ∗ wholePts c cc0_stg0_0 X ∗ wholePts c cc0_stg1_0 f)

omit [FloatOps F] in
theorem trips_le (k : Fin k0_t1_loop.trips) : k.val + 1 < 8 := by
  have h1 := k.isLt
  have h2 := k0_t1_abs.2.1
  omega

theorem trip_run (k : Fin k0_t1_loop.trips) (acc : FVec F S1x1024 .f32) :
    loopInv T c X k.val acc ⊢ wp frame (wpE (defs₀ (F := F)) 𝒱₀ (c : Thread nD τ) none) Set.univ
      (k0_t1_body xM (Memref.isWhole_whole _) oM (Memref.isWhole_whole _) tM (Memref.isWhole_whole _) rM (Memref.isWhole_whole _) cc0_scratch2 cc0_scratch3 k acc)
      (loopInv T c X (k.val + 1)) := by
  unfold k0_t1_body
  rw [k0_part1_eq_skeleton]
  unfold k0_part1_skel loopInv
  simp only [Prog.lift, Prog.bind_op, Prog.bind_ret, Prog.pure_eq_ret]
  have hk := trips_le k
  have ho : k0_off25 k = ![512 * (k.val + 1), 0] := k0_off25_eq k
  iintro ⟨%f, %hf, Hx, Ho⟩
  iapply (wp_load 𝒱₀ (c : Thread nD τ) none Set.univ (m := xM) (Finset.subset_univ _)) $$ Hx; iintro Hx
  rw [block_read X (k0_off25_inb k) hk ho]
  iapply (wp_load 𝒱₀ (c : Thread nD τ) none Set.univ (m := oM) (Finset.subset_univ _)) $$ Ho; iintro Ho
  iapply (wp_store 𝒱₀ (c : Thread nD τ) none Set.univ (m := oM) (r := blockRect (k0_off25_inb k)) (Mk := Finset.univ) (Finset.subset_univ _)) $$ Ho; iintro Ho
  rw [wp_ret]; imodintro
  obtain ⟨rfl, hf⟩ := hf
  iexists _
  isplitr
  swap
  · isplitl [Hx]; · iexact Hx
    iexact Ho
  ipureintro
  refine ⟨rfl, fun i hi => ?_⟩
  rw [block_write (k0_off25_inb k) hk ho]
  split
  · rename_i h; unfold outOf; rw [h]; rfl
  · exact hf i (by omega)

/-! ## All of it -/

theorem any_of_slots : (bigSep Finset.univ fun j : Dev nD => landedSlot T c j) ⊢ iprop(∃ f, wholePts (F := F) c cc0_scratch1 f) := by
  have h0 : ∀ j : Dev nD, landedSlot T c j ⊢ iprop(∃ f : (cc0_scratch1 : Ref sig .tc).ty.Contents (Elt F), slotPts c j f) := fun j => by
    unfold landedSlot
    iintro ⟨%f, -, H⟩
    iexists f; iexact H
  have h1 : (bigSep Finset.univ fun j : Dev nD => landedSlot T c j)
      ⊢ bigSep Finset.univ fun j : Dev nD => iprop(∃ f : (cc0_scratch1 : Ref sig .tc).ty.Contents (Elt F), slotPts c j f) :=
    bigSep_mono fun j _ => h0 j
  have h2 := fun j : Dev nD => (⟨rowsOf onesRow⟩ : Nonempty ((cc0_scratch1 : Ref sig .tc).ty.Contents (Elt F)))
  refine h1.trans ((bigSep_exists_pi Finset.univ fun (j : Dev nD) (f : (cc0_scratch1 : Ref sig .tc).ty.Contents (Elt F)) => slotPts (F := F) c j f).trans ?_)
  iintro ⟨%fs, H⟩
  iapply (slots_join c fs); iexact H

omit [FloatOps F] in
theorem slots_any (f : (cc0_scratch1 : Ref sig .tc).ty.Contents (Elt F)) :
    (wholePts c cc0_scratch1 f : sProp 𝕄) ⊢ bigSep Finset.univ fun j : Dev nD => anySlot c j := by
  have h : ∀ j : Dev nD, (slotPts c j f : sProp 𝕄) ⊢ anySlot c j := fun j => by
    unfold anySlot
    iintro H
    iexists f; iexact H
  exact (slots_split c f).trans (bigSep_mono fun j _ => h j)

def bodyIn : sProp 𝕄 :=
  iprop(records T K ∗ levAts L lv ∗ Ow c (O₀ c) ∗ wholePts c cc0_stg0_0 X ∗ (∃ f, wholePts (F := F) c cc0_stg1_0 f)
    ∗ (∃ f, wholePts (F := F) c cc0_scratch0 f) ∗ (∃ f, wholePts (F := F) c cc0_scratch1 f)
    ∗ (bigSep Finset.univ fun j => sigTok (F := F) c j) ∗ (bigSep Finset.univ fun j => sendTok (F := F) c j)
    ∗ (bigSep Finset.univ fun j => recvCred (F := F) c j) ∗ (bigSep Finset.univ fun j => positions (F := F) c j)
    ∗ cred (tallyAt (barCell c) () 7) ∗ atPos ER (barCell c) 0 ∅ 0)

def bodyOut : sProp 𝕄 :=
  iprop(Ow c 0 ∗ wholePts c cc0_stg0_0 X ∗ wholePts c cc0_stg1_0 (outOf T c X)
    ∗ (∃ f, wholePts (F := F) c cc0_scratch0 f) ∗ (∃ f, wholePts (F := F) c cc0_scratch1 f)
    ∗ semVal (barCell c) 0 ∗ bigSep Finset.univ fun j => closed (F := F) c j)

set_option maxHeartbeats 3200000 in
theorem body_run (hT : T c = k0_pay5 X) (Q : PUnit → sProp 𝕄) :
    bodyIn T K c X
      ⊢ iprop((bodyOut T c X -∗ Q ⟨⟩) -∗ wp frame (wpE (defs₀ (F := F)) 𝒱₀ (c : Thread nD τ) none) Set.univ
          (cc0_body xM (Memref.isWhole_whole _) oM (Memref.isWhole_whole _) tM (Memref.isWhole_whole _) rM (Memref.isWhole_whole _) cc0_scratch2 cc0_scratch3) Q) := by
  rw [cc0_body_eq_skeleton]
  unfold cc0_body_skel bodyIn
  iintro ⟨#HR, #Hlev, HO, Hx, Ho, Ht, ⟨%fs, Hs⟩, HS, HT, HC, HPos, Hc, Hat⟩ Hk
  rw [wp_bind]
  iapply (signals_run T K c) $$ [HO Hs HS Hc Hat]
  · isplitr; · iexact HR
    isplitr; · iexact Hlev
    isplitl [HO]; · iexact HO
    isplitl [Hs]
    · iapply (slots_any c fs); iexact Hs
    isplitl [HS]; · iexact HS
    isplitl [Hc] <;> iassumption
  iintro ⟨HO, HK, HPeer, Hz⟩
  simp only [eight]
  icases HK with ⟨HK0, HK1, HK2, HK3, HK4, HK5, HK6, HK7⟩
  icases HPeer with ⟨HP0, HP1, HP2, HP3, HP4, HP5, HP6, HP7⟩
  icases HT with ⟨HT0, HT1, HT2, HT3, HT4, HT5, HT6, HT7⟩
  icases HC with ⟨HC0, HC1, HC2, HC3, HC4, HC5, HC6, HC7⟩
  icases HPos with ⟨HA0, HA1, HA2, HA3, HA4, HA5, HA6, HA7⟩
  rw [wp_bind]
  iapply (sends_run₁ T K c X hT _) $$ [HO Hx Ht HP0 HP1 HT0 HT1]
  · isplitr; · iexact HR
    isplitl [HO]; · iexact HO
    isplitl [Hx]; · iexact Hx
    isplitl [Ht]; · iexact Ht
    isplitl [HP0]; · iexact HP0
    isplitl [HP1]; · iexact HP1
    isplitl [HT0]; · iexact HT0
    iexact HT1
  iintro %p ⟨HO, Hx, HX0, HX1, HX2, HX3, HX4, HX5, HX6, HX7⟩
  rw [wp_bind]
  iapply (sends_run₂ T K c X _ _ _) $$ [HO Hx HX2 HX3 HX4 HX5 HX6 HX7 HP2 HP3 HP4 HP5 HP6 HP7 HT2 HT3 HT4 HT5 HT6 HT7]
  · isplitr; · iexact HR
    isplitl [HO]; · iexact HO
    isplitl [Hx]; · iexact Hx
    isplitl [HX2]; · iexact HX2
    isplitl [HX3]; · iexact HX3
    isplitl [HX4]; · iexact HX4
    isplitl [HX5]; · iexact HX5
    isplitl [HX6]; · iexact HX6
    isplitl [HX7]; · iexact HX7
    isplitl [HP2]; · iexact HP2
    isplitl [HP3]; · iexact HP3
    isplitl [HP4]; · iexact HP4
    isplitl [HP5]; · iexact HP5
    isplitl [HP6]; · iexact HP6
    isplitl [HP7]; · iexact HP7
    isplitl [HT2]; · iexact HT2
    isplitl [HT3]; · iexact HT3
    isplitl [HT4]; · iexact HT4
    isplitl [HT5]; · iexact HT5
    isplitl [HT6]; · iexact HT6
    iexact HT7
  iintro ⟨HO, Hx, HX2, HX3, HX4, HX5, HX6, HX7⟩
  rw [wp_bind]
  iapply (waits_run₁ T K c _ _ _) $$ [HO HX0 HA0 HC0 HK0 HX1 HA1 HC1 HK1 HX2 HA2 HC2 HK2 HX3 HA3 HC3 HK3 HX4 HA4 HC4 HK4 HX5 HA5 HC5 HK5]
  · isplitr; · iexact HR
    isplitl [HO]; · iexact HO
    isplitl [HX0 HA0 HC0 HK0]
    · isplitl [HX0]; · iexact HX0
      isplitl [HA0]; · iexact HA0
      isplitl [HC0]; · iexact HC0
      iexact HK0
    isplitl [HX1 HA1 HC1 HK1]
    · isplitl [HX1]; · iexact HX1
      isplitl [HA1]; · iexact HA1
      isplitl [HC1]; · iexact HC1
      iexact HK1
    isplitl [HX2 HA2 HC2 HK2]
    · isplitl [HX2]; · iexact HX2
      isplitl [HA2]; · iexact HA2
      isplitl [HC2]; · iexact HC2
      iexact HK2
    isplitl [HX3 HA3 HC3 HK3]
    · isplitl [HX3]; · iexact HX3
      isplitl [HA3]; · iexact HA3
      isplitl [HC3]; · iexact HC3
      iexact HK3
    isplitl [HX4 HA4 HC4 HK4]
    · isplitl [HX4]; · iexact HX4
      isplitl [HA4]; · iexact HA4
      isplitl [HC4]; · iexact HC4
      iexact HK4
    isplitl [HX5]; · iexact HX5
    isplitl [HA5]; · iexact HA5
    isplitl [HC5]; · iexact HC5
    iexact HK5
  iintro %w ⟨HO, ⟨HX0, HL0, HZ0⟩, ⟨HX1, HL1, HZ1⟩, ⟨HX2, HL2, HZ2⟩, ⟨HX3, HL3, HZ3⟩, ⟨HX4, HL4, HZ4⟩, ⟨HX5, HL5, HZ5⟩⟩
  rw [wp_bind]
  iapply (waits_run₂ T K c _ _) $$ [HO HL0 HL1 HL2 HL3 HX6 HA6 HC6 HK6 HX7 HA7 HC7 HK7]
  · isplitr; · iexact HR
    isplitl [HO]; · iexact HO
    isplitl [HL0]; · iexact HL0
    isplitl [HL1]; · iexact HL1
    isplitl [HL2]; · iexact HL2
    isplitl [HL3]; · iexact HL3
    isplitl [HX6 HA6 HC6 HK6]
    · isplitl [HX6]; · iexact HX6
      isplitl [HA6]; · iexact HA6
      isplitl [HC6]; · iexact HC6
      iexact HK6
    isplitl [HX7]; · iexact HX7
    isplitl [HA7]; · iexact HA7
    isplitl [HC7]; · iexact HC7
    iexact HK7
  iintro %a0 %a1 %a2 %a3 ⟨%h0, %h1, %h2, %h3, HO, HL0, HL1, HL2, HL3, ⟨HX6, HL6, HZ6⟩, ⟨HX7, HL7, HZ7⟩⟩
  simp only [Prog.lift, Prog.bind_op, Prog.bind_ret, Prog.pure_eq_ret]
  iapply (load_slot T (c := c) (j := 4) (off := ![4, 0, 0]) rfl) $$ HL4; iintro %a4 ⟨%h4, HL4⟩
  iapply (load_slot T (c := c) (j := 5) (off := ![5, 0, 0]) rfl) $$ HL5; iintro %a5 ⟨%h5, HL5⟩
  iapply (load_slot T (c := c) (j := 6) (off := ![6, 0, 0]) rfl) $$ HL6; iintro %a6 ⟨%h6, HL6⟩
  icases Ho with ⟨%f1, Ho⟩
  iapply (wp_load 𝒱₀ (c : Thread nD τ) none Set.univ (m := oM) (Finset.subset_univ _)) $$ Ho; iintro Ho
  iapply (wp_store 𝒱₀ (c : Thread nD τ) none Set.univ (m := oM) (r := blockRect inb_S4096x1024_S512x1024_0_0) (Mk := Finset.univ) (Finset.subset_univ _)) $$ Ho; iintro Ho
  unfold k0_pay2
  rw [pay1_eq T c (k0_pay8 (k0_pay6 (headOf X)) (k0_pay7 (headOf X))) h0 h1 h2 h3 h4 h5 h6, headOf_eq]
  iapply (Scf.wp_for_bind frame (wpE (defs₀ (F := F)) 𝒱₀ (c : Thread nD τ) none) Set.univ k0_t1_loop.lb k0_t1_loop.ub k0_t1_loop.st k0_t1_ok _ _
      (loopInv T c X) (trip_run T c X)) $$ [Hx Ho]
  · unfold loopInv
    iexists _
    isplitr
    swap
    · isplitl [Hx]; · iexact Hx
      iexact Ho
    ipureintro
    refine ⟨rfl, fun i hi => ?_⟩
    rw [block_write inb_S4096x1024_S512x1024_0_0 (k := 0) (by decide) rfl, if_pos (Nat.le_zero.mp hi)]
    unfold outOf; rw [Nat.le_zero.mp hi]; rfl
  iintro %acc Hinv
  unfold loopInv
  icases Hinv with ⟨%f, %hf, Hx, Ho⟩
  have hfin : f = outOf T c X := funext fun i => hf.2 i (by
    have h1 : (i 0).val < 4096 := (i 0).isLt
    have h2 : Scf.trips k0_t1_loop.lb k0_t1_loop.ub k0_t1_loop.st = 7 := by decide +kernel
    omega)
  subst hfin
  rw [wp_ret]; imodintro
  iapply Hk
  unfold bodyOut
  isplitl [HO]; · iexact HO
  isplitl [Hx]; · iexact Hx
  isplitl [Ho]; · iexact Ho
  isplitl [HX0 HX1 HX2 HX3 HX4 HX5 HX6 HX7]
  · iexists (T c)
    rw [tot_shares, eight]
    isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    iexact HX7
  isplitl [HL0 HL1 HL2 HL3 HL4 HL5 HL6 HL7]
  · iapply (any_of_slots T c)
    rw [eight]
    isplitl [HL0]; · iexact HL0
    isplitl [HL1]; · iexact HL1
    isplitl [HL2]; · iexact HL2
    isplitl [HL3]; · iexact HL3
    isplitl [HL4]; · iexact HL4
    isplitl [HL5]; · iexact HL5
    isplitl [HL6]; · iexact HL6
    iexact HL7
  isplitl [Hz]; · iexact Hz
  rw [eight]
  isplitl [HZ0]; · iexact HZ0
  isplitl [HZ1]; · iexact HZ1
  isplitl [HZ2]; · iexact HZ2
  isplitl [HZ3]; · iexact HZ3
  isplitl [HZ4]; · iexact HZ4
  isplitl [HZ5]; · iexact HZ5
  isplitl [HZ6]; · iexact HZ6
  iexact HZ7

end Cert.PrefixProof

end
-- ==== Proof.Deal.lean ====
/-
# Dealing out the protocol

At launch every cell of the protocol gets its state and its duties their tokens, and each token goes to the device
that pays the duty; the tokens of a device towards itself are dropped. What the devices owe one another is the credit
each can count on: a unit from each peer at the barrier, a row from each peer at the receive cells.
-/
module

public import proofs.«01_k».proof.Proof.Body

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own semaphores: the eight send and the eight receive ones. -/
abbrev osem : Fin 16 → SemLoc sig := fun i => .dma ⟨2 + i.val, Nat.lt_of_lt_of_le (Nat.add_lt_add_left i.isLt 2) (by decide)⟩
theorem ownSemFacts : Pipeline.OwnSemFacts cfg0.spec osem := by decide

/-! ## A device's cells, one kind after the other -/

omit [FloatOps F] in
theorem cells_eq (Φ : CK → sProp 𝕄) : bigSep Finset.univ Φ
    = iprop(Φ none ∗ (bigSep Finset.univ fun j : Dev nD => Φ (some (false, j))) ∗ bigSep Finset.univ fun j : Dev nD => Φ (some (true, j))) := by
  have h : (Finset.univ : Finset CK).erase none = Finset.univ.map (Function.Embedding.some : (Bool × Dev nD) ↪ CK) := by decide
  rw [bigSep_univ_at Φ none, h, bigSep_map, bigSep_univ_prod, bigSep_univ_eq_bigSepL ([false, true] : List Bool) (by decide) (by decide)]
  rfl

/-! ## The tokens -/

/-- The duty of a cell by its device, its kind (barrier, send, receive) and the peer. -/
abbrev tokOf : Dev nD × Option Bool × Dev nD → GSem nD τ sig × ℕ × Dev nD
  | (c, none, j) => (barCell c, 0, j)
  | (c, some false, j) => (sendCell c j, 0, c)
  | (c, some true, j) => (recvCell c j, 0, j)
theorem tokOf_injective : Function.Injective tokOf := by
  rintro ⟨c, b, j⟩ ⟨c', b', j'⟩ h
  rcases b with _ | _ | _ <;> rcases b' with _ | _ | _ <;>
    (have h1 := kcell_injective (congrArg Prod.fst h)
     have h2 := congrArg (fun x : GSem nD τ sig × ℕ × Dev nD => x.2.2) h
     simp_all)

def allCells : Finset (GSem nD τ sig) := Finset.univ.map ⟨kcell, kcell_injective⟩
def allToks : Finset (GSem nD τ sig × ℕ × Dev nD) := Finset.univ.map ⟨tokOf, tokOf_injective⟩

/-- What the launch starts from: the pipeline's cells and the protocol's. -/
def u₀ : UU := (initOf (Pipeline.cells cfgs cellOf_inj) (Pipeline.launchToks cfgs cellOf_inj), initOf allCells allToks)

/-- The tokens of device `c`'s own cells. -/
def ownToks (c : Dev nD) : sProp 𝕄 :=
  iprop((bigSep Finset.univ fun j : Dev nD => dutyTok ER (barCell c) 0 j)
    ∗ (bigSep Finset.univ fun j : Dev nD => dutyTok ER (sendCell c j) 0 c)
    ∗ bigSep Finset.univ fun j : Dev nD => dutyTok ER (recvCell c j) 0 j)
/-- The tokens of the duties device `c` pays. -/
def payToks (c : Dev nD) : sProp 𝕄 :=
  iprop((bigSep Finset.univ fun j : Dev nD => sigTok c j) ∗ bigSep Finset.univ fun j : Dev nD => sendTok c j)

omit [FloatOps F] in
theorem toks_dealt : (bigSep Finset.univ fun c : Dev nD => (ownToks c : sProp 𝕄)) ⊢ bigSep Finset.univ fun c : Dev nD => payToks c := by
  have hb : ∀ c j : Dev nD, (dutyTok ER (barCell j) 0 c : sProp 𝕄) ⊢ sigTok c j := fun c j => by
    unfold sigTok; split
    · iintro -; iempintro
    · iintro H; iexact H
  have hs : ∀ c j : Dev nD, (iprop(dutyTok ER (sendCell c j) 0 c ∗ dutyTok ER (recvCell j c) 0 c) : sProp 𝕄) ⊢ sendTok c j := fun c j => by
    unfold sendTok; split
    · iintro -; iempintro
    · iintro H; iexact H
  refine BIBase.Entails.trans (Q := bigSep Finset.univ fun c : Dev nD => iprop((bigSep Finset.univ fun j : Dev nD => (dutyTok ER (barCell j) 0 c : sProp 𝕄))
      ∗ bigSep Finset.univ fun j : Dev nD => iprop(dutyTok ER (sendCell c j) 0 c ∗ dutyTok ER (recvCell j c) 0 c))) ?_ ?_
  · unfold ownToks
    simp only [bigSep_sep']
    rw [BI.bigSep_univ_comm (fun c j : Dev nD => (dutyTok ER (barCell c) 0 j : sProp 𝕄)),
      BI.bigSep_univ_comm (fun c j : Dev nD => (dutyTok ER (recvCell c j) 0 j : sProp 𝕄))]
  · exact bigSep_mono fun c _ => BI.sep_mono (bigSep_mono fun j _ => hb c j) (bigSep_mono fun j _ => hs c j)

variable (T : Dev nD → FVec F S1x1024 .f32)

/-- What the launch gives device `c`: its cells' states, its positions at them, that round 0 is reached, its tokens. -/
def dealt (c : Dev nD) : sProp 𝕄 :=
  iprop((bigSep Finset.univ fun k : CK => roundState ER (Rd T) (kcell (c, k)) 0)
    ∗ (bigSep Finset.univ fun k : CK => iprop(atPos ER (kcell (c, k)) 0 ∅ 0 ∗ reached ER (kcell (c, k)) 0)) ∗ ownToks c)

omit [FloatOps F] in
theorem fund_cells : BI.own (ER (initOf allCells allToks)) ⊢ (|==> bigSep Finset.univ (dealt T) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    rw [bigSep_univ_prod, bigSep_univ_eq_bigSepL ([none, some false, some true] : List (Option Bool)) (by decide) (by decide)]
    rfl
  iintro HX
  imod (Rounds.fund ER (Rd T) allCells allToks) $$ HX with ⟨Hst, Hr, Hat, Htok⟩
  imodintro
  ihave Hst := (Entails.of_eq (hX fun g => roundState ER (Rd T) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-! ## The semaphores -/

omit [FloatOps F] in
theorem shift_left (P Q R : sProp 𝕄) : iprop((P ∗ Q) ∗ R) = iprop(P ∗ Q ∗ R) := by
  refine equiv_iff.mp ⟨?_, ?_⟩
  · show iprop((P ∗ Q) ∗ R) ⊢ iprop(P ∗ Q ∗ R)
    iintro ⟨⟨HP, HQ⟩, HR⟩
    isplitl [HP]; · iexact HP
    isplitl [HQ] <;> iassumption
  · show iprop(P ∗ Q ∗ R) ⊢ iprop((P ∗ Q) ∗ R)
    iintro ⟨HP, HQ, HR⟩
    isplitl [HP HQ]
    · isplitl [HP] <;> iassumption
    iexact HR

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j : Dev nD => semVal (sendCell c j) 0) ∗ bigSep Finset.univ fun j : Dev nD => semVal (recvCell c j) 0) := by
  rw [Pipeline.ownSems0_eq_of_list c osem ([0, 1, 2, 3, 4, 5, 6, 7, 8, 9, 10, 11, 12, 13, 14, 15] : List (Fin 16)) (by decide) (by decide), eight, eight]
  simp only [shift_left]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_of_cells (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, cells_eq]
  iintro ⟨⟨HS, HV⟩, HB⟩
  isplitl [HB]; · iexact HB
  isplitl [HS] <;> iassumption

/-! ## The cells' invariants, device by device, then all together -/

omit [FloatOps F] in
theorem alloc_cells (c : Dev nD) :
    iprop(Pipeline.ownSems0 (Ix := Unit) (Name := ℕ) (U := UU) (Lvl := ℕ) (Val := Elt F) (τ := τ) osem c ∗ unscopedSems0 c ∗ dealt T c)
      ⊢ |={Set.univ}=> iprop((bigSep Finset.univ fun k : CK => iprop(∃ κ : ℕ, cellInv ER (Rd T) κ (kcell (c, k))))
          ∗ (bigSep Finset.univ fun k : CK => iprop(atPos ER (kcell (c, k)) 0 ∅ 0 ∗ reached ER (kcell (c, k)) 0)) ∗ ownToks c) := by
  have hI : iprop((bigSep Finset.univ fun k : CK => semVal (kcell (c, k)) 0) ∗ bigSep Finset.univ fun k : CK => roundState ER (Rd T) (kcell (c, k)) 0)
      ⊢ (|={Set.univ}=> bigSep Finset.univ fun k : CK => iprop(∃ κ : ℕ, cellInv ER (Rd T) κ (kcell (c, k))) : sProp 𝕄) := by
    rw [← bigSep_sep']
    exact (bigSep_mono fun k _ => (Rounds.body_intro ER (Rd T) (kcell (c, k))).trans inv_alloc).trans (bigSep_fupd _ _)
  unfold dealt
  iintro ⟨Hos, Hus, Hst, Hat, Htok⟩
  ihave Hv := (sems_of_cells (F := F) c) $$ [Hos Hus]
  · isplitl [Hos] <;> iassumption
  imod hI $$ [Hv Hst] with Hinv
  · isplitl [Hv] <;> iassumption
  imodintro
  isplitl [Hinv]; · iexact Hinv
  isplitl [Hat]; · iexact Hat
  iexact Htok

/-- What device `c` enters the kernel with. -/
def entry (c : Dev nD) : sProp 𝕄 :=
  iprop(∃ K, records T K ∗ (bigSep Finset.univ fun k : CK => atPos ER (kcell (c, k)) 0 ∅ 0) ∗ payToks c)

omit [FloatOps F] in
theorem entry_all :
    (bigSep Finset.univ fun c : Dev nD => iprop((bigSep Finset.univ fun k : CK => iprop(∃ κ : ℕ, cellInv ER (Rd T) κ (kcell (c, k))))
          ∗ (bigSep Finset.univ fun k : CK => iprop(atPos ER (kcell (c, k)) 0 ∅ 0 ∗ reached ER (kcell (c, k)) 0)) ∗ ownToks c) : sProp 𝕄)
      ⊢ bigSep Finset.univ (entry T) := by
  have hone (K : Dev nD × CK → ℕ) : ∀ c ∈ (Finset.univ : Finset (Dev nD)),
      (iprop(records T K ∗ (bigSep Finset.univ fun k : CK => atPos ER (kcell (c, k)) 0 ∅ 0) ∗ payToks c) : sProp 𝕄) ⊢ entry T c := fun c _ => by
    unfold entry; iintro H; iexists K; iexact H
  have hall (K : Dev nD × CK → ℕ) : (iprop(records T K ∗ bigSep Finset.univ fun c : Dev nD =>
      iprop((bigSep Finset.univ fun k : CK => atPos ER (kcell (c, k)) 0 ∅ 0) ∗ payToks c)) : sProp 𝕄) ⊢ bigSep Finset.univ (entry T) :=
    (sep_mono_left (BI.bigSep_of_persistent Finset.univ (records T K))).trans (by rw [← bigSep_sep']; exact bigSep_mono (hone K))
  simp only [bigSep_sep']
  rw [← bigSep_univ_prod (fun ck : Dev nD × CK => iprop(∃ κ : ℕ, cellInv ER (Rd T) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd T) κ (kcell ck) : sProp 𝕄))) $$ HI
  icases HK with ⟨%K, #HI⟩
  ihave Htk := (toks_dealt (F := F)) $$ Htok
  iapply (hall K)
  isplitr
  · unfold records; isplitl; · iexact HI
    iexact HR
  · rw [bigSep_sep']
    isplitl [Hat]; · iexact Hat
    iexact Htk

omit [FloatOps F] in
theorem deal_all : (bigSep Finset.univ fun c => iprop(Pipeline.ownSems0 (Ix := Unit) (Name := ℕ) (U := UU) (Lvl := ℕ) (Val := Elt F) (τ := τ) osem c ∗ unscopedSems0 c ∗ dealt T c) : sProp 𝕄)
    ⊢ |={Set.univ}=> bigSep Finset.univ (entry T) :=
  ((bigSep_mono fun c _ => alloc_cells T c).trans (bigSep_fupd _ _)).trans (BI.fupd_mono (entry_all T))

/-! ## The credit the devices count on -/

theorem bar_eq_iff {a b : Dev nD} : barCell a = barCell b ↔ a = b :=
  ⟨fun h => congrArg Prod.fst (kcell_injective h), fun h => h ▸ rfl⟩
theorem recv_eq_iff {c i j : Dev nD} : recvCell c i = recvCell c j ↔ i = j :=
  ⟨fun h => by have := congrArg Prod.snd (kcell_injective h); simpa using this, fun h => h ▸ rfl⟩

theorem owRecv_at_bar (d c j : Dev nD) : owRecv d j (barCell c) () = 0 :=
  Nat.eq_zero_of_not_pos fun h => by have := congrArg Prod.snd (kcell_injective (owRecv_pos h)); cases this
theorem owBar_at_recv (d c i j : Dev nD) : owBar d i (recvCell c j) () = 0 :=
  Nat.eq_zero_of_not_pos fun h => by have := congrArg Prod.snd (kcell_injective (owBar_pos h)); cases this
theorem owRecv_at_other (d : Dev nD) {c i j : Dev nD} (h : i ≠ c) : owRecv d i (recvCell c j) () = 0 :=
  Nat.eq_zero_of_not_pos fun h' => by
    have h1 : recvCell c j = recvCell i d := owRecv_pos h'
    exact h (congrArg Prod.fst (kcell_injective h1)).symm

theorem owed_bar (d c : Dev nD) : O₀ d (barCell c) () = if c = d then 0 else 1 := by
  rw [O₀_eq_sum, Pi.add_apply, Finsupp.add_apply, sum_tally_apply, sum_tally_apply,
    Finset.sum_eq_zero fun j _ => owRecv_at_bar d c j,
    Finset.sum_eq_single c (fun j _ hj => Nat.eq_zero_of_not_pos fun h => hj (bar_eq_iff.mp (owBar_pos h)).symm)
      (fun h => absurd (Finset.mem_univ c) h), Nat.zero_add]
  unfold owBar
  split
  · rfl
  · rw [tallyAt_apply, if_pos ⟨rfl, rfl⟩]

theorem owed_recv (d c j : Dev nD) : O₀ d (recvCell c j) () = if c = d then 0 else if j = d then N else 0 := by
  rw [O₀_eq_sum, Pi.add_apply, Finsupp.add_apply, sum_tally_apply, sum_tally_apply,
    Finset.sum_eq_zero (s := Finset.univ) (f := fun i => owBar d i (recvCell c j) ()) fun i _ => owBar_at_recv d c i j,
    Finset.sum_eq_single c (fun i _ hi => owRecv_at_other d hi)
      (fun h => absurd (Finset.mem_univ c) h), Nat.add_zero]
  unfold owRecv
  split
  · rfl
  · rw [tallyAt_apply]
    by_cases h : j = d
    · rw [if_pos ⟨by rw [h], rfl⟩, if_pos h]
    · rw [if_neg (fun h' => h (recv_eq_iff.mp h'.1)), if_neg h]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv {c j : Dev nD} (h : ¬ j = c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_eq_single j (fun d _ hd => by rw [if_neg (Ne.symm hd)]; split <;> rfl) (fun h => absurd (Finset.mem_univ j) h),
    if_neg (Ne.symm h), if_pos rfl]

/-- The receive semaphores among all. -/
def recvEmb : Dev nD ↪ SemLoc sig := ⟨fun j => csem (some (true, j)), fun i j h => by simpa using csem_injective h⟩

omit [FloatOps F] in
theorem creds (c : Dev nD) :
    (Pipeline.launchCred O₀ c : sProp 𝕄) ⊢ iprop(cred (tallyAt (barCell c) () 7) ∗ bigSep Finset.univ fun j : Dev nD => recvCred c j) := by
  unfold Pipeline.launchCred
  rw [bigSep_univ_at _ (SemLoc.reg barS), launch_bar]
  refine sep_mono_right ((bigSep_subset (t := Finset.univ.map recvEmb) ?_).trans ?_)
  · decide
  · rw [bigSep_map]
    refine bigSep_mono fun j _ => ?_
    unfold recvCred
    by_cases h : j = c
    · rw [if_pos h]
      have hd (P : sProp 𝕄) : P ⊢ iprop(emp) := by iintro -; iempintro
      exact hd _
    · rw [if_neg h, ← launch_recv h]; exact Entails.refl _

end Cert.PrefixProof

end
-- ==== Proof.Run.lean ====
/-
# The run

The launch of the eight devices: from any memory with every counter at zero, the program terminates, each device's
result array holds the kernel's value of its block and of the totals, its argument is what it was, and every counter is
zero again.
-/
module

public import Idealize.ShloMosaic.Lib.Pipeline.CollectiveSegs
public import proofs.«01_k».proof.Proof.Gen.KernelIdeal.Points
public import proofs.«01_k».proof.Proof.Deal

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at launch. -/
def s₀ : MemSt nD τ sig (Elt F) := ⟨m, fun _ => 0, ρ⟩
/-- Device `c`'s block of the argument, as its kernel finds it staged. -/
def argOf (c : Dev nD) : FVec F S4096x1024 .f32 :=
  (win0_0.blk (0 : Fin 1)).view.read (Elt F) ((s₀ m ρ).mem ((c : Thread nD τ).loc main_arg0))
/-- The eight totals. -/
def totals (c : Dev nD) : FVec F S1x1024 .f32 := k0_pay5 (argOf m ρ c)
/-- Device `c`'s block of the result. -/
def resOf (c : Dev nD) : FVec F S4096x1024 .f32 := outOf (totals m ρ) c (argOf m ρ c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The kernel's one point -/

/-- What device `c` holds as it enters, besides its two scratch buffers. -/
def start (c : Dev nD) : sProp 𝕄 :=
  iprop(entry (totals m ρ) c ∗ levAts L lv ∗ cred (tallyAt (barCell c) () 7) ∗ bigSep Finset.univ fun j : Dev nD => recvCred c j)

def scratches (c : Dev nD) : sProp 𝕄 := iprop((∃ f, wholePts (F := F) c cc0_scratch0 f) ∗ ∃ f, wholePts (F := F) c cc0_scratch1 f)
def Φ₀ (c : Dev nD) : sProp 𝕄 := iprop(start m ρ c ∗ scratches c)
def Φ₁ (c : Dev nD) : sProp 𝕄 := iprop(scratches c ∗ semVal (barCell c) 0 ∗ bigSep Finset.univ fun j : Dev nD => closed c j)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argOf m ρ c
    | ⟨1, _⟩ => resOf m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem windows_eq (Φ : Fin cfg0.W → sProp 𝕄) : bigSep Finset.univ Φ = iprop(Φ (0 : Fin 2) ∗ Φ (1 : Fin 2)) := bigSep_W0 Φ
theorem fetch_arg (t : Fin cfg0.N) : (cfg0.win (0 : Fin 2)).fetch t = true := by rw [fin_N t]; rfl

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ wholePts c b f) := by
  unfold owns wholePts; simp only [Memref.view_whole, View.read_whole, View.set_whole]

abbrev staged (c : Dev nD) (b : Ref sig .tc) (X : b.ty.Contents (Elt F)) : sProp 𝕄 :=
  iprop(∃ f : Buf (Elt F) ((c : Thread nD τ).loc b), ⌜f = X⌝ ∗ wholePts c b f)

def pointPre (c : Dev nD) : sProp 𝕄 :=
  iprop(Φ₀ m ρ c ∗ (dats m ρ 0 c).owesAt () t₀.castSucc
    ∗ (∃ d, staged c cc0_stg0_0 ((dats m ρ 0 c).before (0 : Fin 2) t₀ d))
    ∗ (∃ d, staged c cc0_stg1_0 ((dats m ρ 0 c).before (1 : Fin 2) t₀ d)))
def pointPost (c : Dev nD) : sProp 𝕄 :=
  iprop(Φ₁ c ∗ (dats m ρ 0 c).owesAt () t₀.succ ∗ staged c cc0_stg0_0 (argOf m ρ c) ∗ staged c cc0_stg1_0 (resOf m ρ c))

theorem point_pre (c : Dev nD) : pointPre m ρ c ⊢ ∃ K, bodyIn (totals m ρ) K c (argOf m ρ c) := by
  unfold pointPre Φ₀ start entry payToks scratches
  iintro ⟨⟨⟨⟨%K, HR, Hat, Hsig, Hsend⟩, Hlev, Hcb, Hcr⟩, H0, H1⟩, Ho, ⟨%d0, %g0, %hg0, Hx⟩, ⟨%d1, %g1, %hg1, Hout⟩⟩
  have hx : g0 = argOf m ρ c := by rw [hg0]; unfold Dat.before; rw [if_pos (fetch_arg t₀)]; rfl
  subst hx
  unfold Dat.owesAt Pipeline.owesWithin
  icases Ho with ⟨%W, %hW, HO⟩
  ihave Hat := (Entails.of_eq (cells_eq (F := F) fun k : CK => atPos ER (kcell (c, k)) 0 ∅ 0)) $$ Hat
  icases Hat with ⟨Hab, Has, Har⟩
  iexists K
  unfold bodyIn
  isplitl [HR]; · iexact HR
  isplitl [Hlev]; · iexact Hlev
  isplitl [HO]; · unfold Ow; iexists W; iexact HO
  isplitl [Hx]; · iexact Hx
  isplitl [Hout]; · iexists g1; iexact Hout
  isplitl [H0]; · iexact H0
  isplitl [H1]; · iexact H1
  isplitl [Hsig]; · iexact Hsig
  isplitl [Hsend]; · iexact Hsend
  isplitl [Hcr]; · iexact Hcr
  isplitl [Has Har]
  · unfold positions; rw [bigSep_sep']
    isplitl [Has] <;> iassumption
  isplitl [Hcb]; · iexact Hcb
  iexact Hab

theorem point_post (c : Dev nD) : bodyOut (totals m ρ) c (argOf m ρ c) ⊢ pointPost m ρ c := by
  unfold bodyOut pointPost Φ₁ scratches Ow Dat.owesAt Pipeline.owesWithin
  rw [show (dats m ρ 0 c).owed t₀.succ = 0 from rfl]
  iintro ⟨⟨%W, HO⟩, Hx, Hout, H0, H1, Hb, Hz⟩
  isplitl [H0 H1 Hb Hz]
  · isplitl [H0 H1]
    · isplitl [H0] <;> iassumption
    isplitl [Hb] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N t, windows_eq, windows_eq]
  simp only [owns_whole]
  show pointPre m ρ c ⊢ wp frame (wpE (defs₀ (F := F)) 𝒱₀ (c : Thread nD τ) none) Set.univ
    (cc0_body xM (Memref.isWhole_whole _) oM (Memref.isWhole_whole _) tM (Memref.isWhole_whole _) rM (Memref.isWhole_whole _) cc0_scratch2 cc0_scratch3)
    (fun _ => pointPost m ρ c)
  iintro H
  ihave H := (point_pre m ρ c) $$ H
  icases H with ⟨%K, H⟩
  iapply (body_run (totals m ρ) K c (argOf m ρ c) rfl) $$ H
  iintro H
  iapply (point_post m ρ c)
  iexact H

/-! ## The launch's side conditions -/

theorem share_full (c : Dev nD) (w : Fin cfg0.W) : (dats m ρ 0 c).share w = fullShare := by unfold Dat.share; split <;> rfl

omit [FloatOps F] in
theorem start_intro [FloatOps F] (c : Dev nD) :
    iprop(Pipeline.unscopedRestP Pipeline.Prefetch.none cfg0.spec c (fun b => m ((c : Thread nD τ).loc b)) ∗ levAts L lv
        ∗ Pipeline.launchCred O₀ c ∗ prngReg c (ρ c) ∗ entry (totals m ρ) c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches wholePts
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratches wholePts closed
  rw [bigSep_sep']
  iintro ⟨Hr, HB, HZ⟩
  isplitl [HB]; · iexact HB
  isplitl [HZ]; · iexact HZ
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def Final (r : PUnit × MemSt nD τ sig (Elt F)) : Prop :=
  ∀ c : Dev nD, ∀ w : Fin cfg0.W, r.2.mem ((cfg0.win w).arr.view.loc (c : Thread nD τ)) = finalA m ρ c w

set_option maxRecDepth 8000 in
theorem run_arrays : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt (totals m ρ)) (G' := entry (totals m ρ)) (u₀ := u₀)
    (hu₀ := by
      unfold u₀
      iintro Hu
      ihave H := (ownU_pair _ _) $$ Hu
      icases H with ⟨HP, HX⟩
      imod (fund_cells (totals m ρ)) $$ HX with HG
      imodintro
      isplitl [HP] <;> iassumption)
    (hglob := deal_all (totals m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

variable (c : Dev nD)

/-- The argument's array ends as it was. -/
theorem finalA_arg : finalA m ρ c (0 : Fin 2) = m ((c : Thread nD τ).loc main_arg0) :=
  (dats (F := F) m ρ 0 c).arrAt_in (0 : Fin 2) rfl _

/-! A window's block is its whole array. -/

theorem read_arg (f : Buf (Elt F) ((c : Thread nD τ).loc main_arg0)) : (win0_0.blk t₀).view.read (Elt F) f = f :=
  Memref.read_access_unit_zero (Elt F) main_arg0
    (show (fun a => (win0_0.index t₀) a * main_arg0.ty.shape.size a) = fun _ => 0 from funext fun a => by fin_cases a <;> decide)
    (fun a => by fin_cases a <;> decide) f
theorem read_res (f : Buf (Elt F) ((c : Thread nD τ).loc main_v1)) : (win0_1.blk t₀).view.read (Elt F) f = f :=
  Memref.read_access_unit_zero (Elt F) main_v1
    (show (fun a => (win0_1.index t₀) a * main_v1.ty.shape.size a) = fun _ => 0 from funext fun a => by fin_cases a <;> decide)
    (fun a => by fin_cases a <;> decide) f

theorem argOf_eq : argOf m ρ c = m ((c : Thread nD τ).loc main_arg0) := read_arg c _

/-- The result's array ends at the kernel's value. -/
theorem finalA_res : finalA m ρ c (1 : Fin 2) = resOf m ρ c := by
  have hw : (win0_1.blk t₀).view.read (Elt F) ((dats (F := F) m ρ 0 c).arrAt (1 : Fin 2) cfg0.N) = resOf m ρ c := by
    rw [show cfg0.N = t₀.val + 1 from rfl, (dats m ρ 0 c).arrAt_succ (1 : Fin 2) t₀, flush0_1, if_pos rfl]
    exact (View.read_write_univ _ _).trans (funext fun _ => rfl)
  exact (read_res c _).symm.trans hw

theorem run_main : θ_run defs (onTc (τ := τ) (main (F := F))) (s₀ m ρ) (fun r =>
    (∀ c : Dev nD, r.2.mem ((c : Thread nD τ).loc main_v1) = resOf m ρ c
      ∧ r.2.mem ((c : Thread nD τ).loc main_arg0) = m ((c : Thread nD τ).loc main_arg0)) ∧ r.2.sem = fun _ => 0) :=
  (θ_run defs _ _).mono (fun r h => ⟨fun c => ⟨(h.1 c (1 : Fin 2)).trans (finalA_res m ρ c), (h.1 c (0 : Fin 2)).trans (finalA_arg m ρ c)⟩, h.2⟩) (run_arrays m ρ)

end Cert.PrefixProof

end
-- ==== Proof.Columns.lean ====
/-
# Columns of products

An array of rows read column by column, as a sequence that is one past the last row. Two ways of multiplying a
column's entries: halving the array until one row is left gives the product of all; multiplying the array by itself
shifted down 1, 2, 4, … rows (ones coming in at the top) gives each row the product of the rows up to it.
-/
module

public import Idealize.ShloMosaic.Lib.Pipeline.Value
public import Idealize.ShloMosaic.Lib.IdealHost
public import proofs.«01_k».proof.Proof.Blocks

@[expose] public section

noncomputable section

namespace Cert.PrefixProof

open Cert.KernelIdeal Cert.KernelIdeal.Gen
open Idealize.ShloMosaic
open Idealize.ShloMosaic.ValueIdx (ix2 ix3 eq_ix2 eq_ix3)
open Finset (range Ico)

/-- Arrays of `n` rows of 1024 extended reals. -/
abbrev Rows (n : ℕ) : Type := FVec Ideal ⟨2, ![n, 1024]⟩ .f32

section Generic
variable {n : ℕ} (V W : Rows n) (q : Fin 1024)

/-- Column `q` at row `r`, one past the last row. -/
def cell (r : ℕ) : EReal := if h : r < n then V (ix2 ⟨r, h⟩ q) else 1

theorem cell_lt {r : ℕ} (h : r < n) : cell V q r = V (ix2 ⟨r, h⟩ q) := dif_pos h

theorem cell_mul (r : ℕ) : cell (mulf V W) q r = cell V q r * cell W q r := by
  unfold cell; split
  · rfl
  · exact (one_mul 1).symm

theorem cell_slice {h o : ℕ} (hs : Shape.Slices (⟨2, ![n, 1024]⟩ : Shape) ![o, 0] ⟨2, ![h, 1024]⟩) {r : ℕ} (hr : r < h) :
    cell (extractStridedSlice ⟨2, ![h, 1024]⟩ ![o, 0] V hs) q r = cell V q (o + r) := by
  have hb : o + h ≤ n := hs.2 0
  rw [cell_lt _ q hr, cell_lt V q (by omega : o + r < n)]
  refine extractStridedSlice_apply _ _ _ _ _ fun a => ?_
  match a with
  | ⟨0, _⟩ => rfl
  | ⟨1, _⟩ => exact (Nat.zero_add _).symm

/-! ## Halving -/

/-- The product of the column's entries. -/
def colProd : EReal := ∏ r ∈ range n, cell V q r

variable {h : ℕ} (h0 : Shape.Slices (⟨2, ![n, 1024]⟩ : Shape) ![0, 0] ⟨2, ![h, 1024]⟩) (h1 : Shape.Slices (⟨2, ![n, 1024]⟩ : Shape) ![h, 0] ⟨2, ![h, 1024]⟩)

/-- The array's upper half times its lower half. -/
def halve : Rows h := mulf (extractStridedSlice ⟨2, ![h, 1024]⟩ ![0, 0] V h0) (extractStridedSlice ⟨2, ![h, 1024]⟩ ![h, 0] V h1)

theorem colProd_halve (hn : n = h + h) : colProd (halve V h0 h1) q = colProd V q := by
  unfold colProd
  refine Eq.trans ?_ (congrArg (fun k => ∏ r ∈ range k, cell V q r) hn.symm)
  rw [Finset.prod_range_add, ← Finset.prod_mul_distrib]
  refine Finset.prod_congr rfl fun r hr => ?_
  have hr := Finset.mem_range.mp hr
  unfold halve
  rw [cell_mul, cell_slice V q h0 hr, cell_slice V q h1 hr, Nat.zero_add]

end Generic

theorem colProd_one (V : Rows 1) (q : Fin 1024) : colProd V q = V (ix2 0 q) := by
  unfold colProd; rw [Finset.prod_range_one]; exact cell_lt V q Nat.one_pos

/-! ## Shifting and multiplying -/

/-- The product of the `d` entries of `a` up to the one at `r`, or of all up to it if they are fewer. -/
def window (a : ℕ → EReal) (d r : ℕ) : EReal := ∏ i ∈ Ico (r + 1 - d) (r + 1), a i

theorem window_one (a : ℕ → EReal) (r : ℕ) : window a 1 r = a r := by
  unfold window; rw [Nat.add_sub_cancel, Nat.Ico_succ_singleton, Finset.prod_singleton]

theorem window_all (a : ℕ → EReal) {d r : ℕ} (h : r < d) : window a d r = ∏ i ∈ range (r + 1), a i := by
  unfold window; rw [Nat.sub_eq_zero_of_le h, Finset.range_eq_Ico]

theorem window_double (a : ℕ → EReal) (d r : ℕ) : window a d r * (if r < d then 1 else window a d (r - d)) = window a (d + d) r := by
  by_cases h : r < d
  · rw [if_pos h, mul_one, window_all a h, window_all a (by omega)]
  · rw [if_neg h, mul_comm]
    unfold window
    rw [show r - d + 1 = r + 1 - d by omega, show r + 1 - d - d = r + 1 - (d + d) by omega]
    exact Finset.prod_Ico_consecutive a (by omega) (by omega)

section Shift
variable {d e : ℕ} (V : Rows 512) (hs : Shape.Slices (⟨2, ![512, 1024]⟩ : Shape) ![0, 0] ⟨2, ![e, 1024]⟩)
  (hc : Shape.Concatenates [(⟨2, ![d, 1024]⟩ : Shape), ⟨2, ![e, 1024]⟩] ⟨2, ![512, 1024]⟩ 0)

/-- The array `d` rows further down, ones above. -/
def shifted : Rows 512 :=
  concatenate ⟨2, ![512, 1024]⟩ 0 [⟨⟨2, ![d, 1024]⟩, broadcast ⟨2, ![d, 1024]⟩ (Scalar.ofBits (F := Ideal) .f32 0x3F800000#32)⟩,
    ⟨⟨2, ![e, 1024]⟩, extractStridedSlice ⟨2, ![e, 1024]⟩ ![0, 0] V hs⟩] hc

theorem cell_shifted (q : Fin 1024) {r : ℕ} (hr : r < 512) :
    cell (shifted V hs hc) q r = if r < d then 1 else cell V q (r - d) := by
  have hde : d + e = 512 := by have := hc.2.2; simpa using this
  rw [cell_lt _ q hr]
  by_cases h : r < d
  · rw [if_pos h]
    refine (concatenate_pair_apply_left (t := ⟨2, ![512, 1024]⟩) (s₁ := ⟨2, ![d, 1024]⟩) (s₂ := ⟨2, ![e, 1024]⟩) 0 _ _ hc
      (ix2 ⟨r, hr⟩ q) rfl (ix2 ⟨r, h⟩ q) fun b => ?_).trans ?_
    · match b with
      | ⟨0, _⟩ => rfl
      | ⟨1, _⟩ => rfl
    · exact Ideal.ofBits_one_f32
  · have he : r - d < e := by omega
    have ha : r - d + d = r := by omega
    rw [if_neg h]
    refine (concatenate_pair_apply_right (t := ⟨2, ![512, 1024]⟩) (s₁ := ⟨2, ![d, 1024]⟩) (s₂ := ⟨2, ![e, 1024]⟩) 0 _ _ hc
      (ix2 ⟨r, hr⟩ q) rfl rfl (ix2 ⟨r - d, he⟩ q) (fun b hb => ?_) ha).trans ?_
    · match b, hb with
      | ⟨0, _⟩, hb => exact absurd rfl hb
      | ⟨1, _⟩, _ => rfl
    · exact ((cell_lt (n := e) _ q he).symm.trans (cell_slice V q hs he)).trans (congrArg _ (Nat.zero_add _))

/-- Column `q` of `V` holds the products of `a` over windows of `d` rows. -/
def Windows (V : Rows 512) (q : Fin 1024) (a : ℕ → EReal) (d : ℕ) : Prop := ∀ r, r < 512 → cell V q r = window a d r

theorem Windows.double {V : Rows 512} {q : Fin 1024} {a : ℕ → EReal} (h : Windows V q a d)
    (hs : Shape.Slices (⟨2, ![512, 1024]⟩ : Shape) ![0, 0] ⟨2, ![e, 1024]⟩)
    (hc : Shape.Concatenates [(⟨2, ![d, 1024]⟩ : Shape), ⟨2, ![e, 1024]⟩] ⟨2, ![512, 1024]⟩ 0) {d' : ℕ} (hd : d' = d + d) :
    Windows (mulf V (shifted V hs hc)) q a d' := fun r hr => by
  rw [hd, cell_mul, cell_shifted V hs hc q hr, h r hr, ← window_double]
  by_cases h' : r < d
  · rw [if_pos h', if_pos h']
  · rw [if_neg h', if_neg h', h (r - d) (by omega)]

end Shift

end Cert.PrefixProof

end
-- ==== Proof.Scan.lean ====
/-
# What the vector code computes

The kernel's products at the extended reals: a device's own total is the product of each of its columns; a scanned
block holds, at each row, the product of the block's column up to that row, times the row carried in.
-/
module

public import Idealize.ShloMosaic.Lib.ValueLayout
public import proofs.«01_k».proof.Proof.Columns

@[expose] public section

noncomputable section

namespace Cert.PrefixProof

open Cert.KernelIdeal Cert.KernelIdeal.Gen
open Idealize.ShloMosaic
open Idealize.ShloMosaic.ValueIdx (ix2 ix3 eq_ix2 eq_ix3)
open Finset (range Ico)

/-- An array times itself shifted down `d` rows. -/
def doubled {d e : ℕ} (V : Rows 512) (hs : Shape.Slices (⟨2, ![512, 1024]⟩ : Shape) ![0, 0] ⟨2, ![e, 1024]⟩)
    (hc : Shape.Concatenates [(⟨2, ![d, 1024]⟩ : Shape), ⟨2, ![e, 1024]⟩] ⟨2, ![512, 1024]⟩ 0) : Rows 512 :=
  mulf V (shifted V hs hc)

/-- An array scanned: shifts of 1, 2, 4, … 256. -/
def scanned (V : Rows 512) : Rows 512 :=
  doubled (doubled (doubled (doubled (doubled (doubled (doubled (doubled (doubled (V)
      slices_S512x1024_o0_0_S511x1024 concatenates_S1x1024_S511x1024_S512x1024_d0)
      slices_S512x1024_o0_0_S510x1024 concatenates_S2x1024_S510x1024_S512x1024_d0)
      slices_S512x1024_o0_0_S508x1024 concatenates_S4x1024_S508x1024_S512x1024_d0)
      slices_S512x1024_o0_0_S504x1024 concatenates_S8x1024_S504x1024_S512x1024_d0)
      slices_S512x1024_o0_0_S496x1024 concatenates_S16x1024_S496x1024_S512x1024_d0)
      slices_S512x1024_o0_0_S480x1024 concatenates_S32x1024_S480x1024_S512x1024_d0)
      slices_S512x1024_o0_0_S448x1024 concatenates_S64x1024_S448x1024_S512x1024_d0)
      slices_S512x1024_o0_0_S384x1024 concatenates_S128x1024_S384x1024_S512x1024_d0)
      slices_S512x1024_o0_0_S256x1024 concatenates_S256x1024_S256x1024_S512x1024_d0

theorem windows_scanned (V : Rows 512) (q : Fin 1024) : Windows (scanned V) q (cell V q) 512 := by
  have h1 : Windows V q (cell V q) 1 := fun r _ => (window_one _ r).symm
  exact ((((((((h1.double _ _ (d' := 2) rfl).double _ _ (d' := 4) rfl).double _ _ (d' := 8) rfl).double _ _ (d' := 16) rfl).double
    _ _ (d' := 32) rfl).double _ _ (d' := 64) rfl).double _ _ (d' := 128) rfl).double _ _ (d' := 256) rfl).double _ _ rfl

theorem cell_scanned (V : Rows 512) (q : Fin 1024) {r : ℕ} (hr : r < 512) :
    cell (scanned V) q r = ∏ i ∈ range (r + 1), cell V q i :=
  (windows_scanned V q r hr).trans (window_all _ hr)

/-- The head block's scan, in the three pieces the program computes it in. -/
theorem head_scan (V : Rows 512) : k0_pay8 (F := Ideal) (k0_pay6 V) (k0_pay7 V) = scanned V := by
  have h6 : k0_pay6 (F := Ideal) V = doubled (doubled (doubled (doubled (V)
      slices_S512x1024_o0_0_S511x1024 concatenates_S1x1024_S511x1024_S512x1024_d0)
      slices_S512x1024_o0_0_S510x1024 concatenates_S2x1024_S510x1024_S512x1024_d0)
      slices_S512x1024_o0_0_S508x1024 concatenates_S4x1024_S508x1024_S512x1024_d0)
      slices_S512x1024_o0_0_S504x1024 concatenates_S8x1024_S504x1024_S512x1024_d0 := by
    unfold k0_pay6; rw [shapeCast_self]; rfl
  unfold k0_pay7
  rw [h6]; rfl

/-- A later block's scan, times the row carried in. -/
theorem next_scan (w : Rows 1) (V : Rows 512) :
    k0_pay4 (F := Ideal) w V = mulf (scanned V) (broadcastTo S512x1024 w broadcasts_S1x1024_S512x1024) := by
  unfold k0_pay4; rw [shapeCast_self]; rfl

theorem cell_spread (w : Rows 1) (q : Fin 1024) {r : ℕ} (hr : r < 512) :
    cell (broadcastTo S512x1024 w broadcasts_S1x1024_S512x1024) q r = w (ix2 0 q) := by
  rw [cell_lt _ q hr]
  exact ValueIdx.broadcastTo_1b_ab_apply _ _ _ _

/-- The last row of a block, as the row carried out. -/
theorem carried_row (V : Rows 512) (q : Fin 1024) : k0_pay3 (F := Ideal) V (ix2 0 q) = cell V q 511 := by
  exact (cell_lt (n := 1) (k0_pay3 (F := Ideal) V) q Nat.one_pos).symm.trans (cell_slice V q slices_S512x1024_o511_0_S1x1024 Nat.one_pos)

/-- A device's total, column by column. -/
theorem total_row (X : Rows 4096) (q : Fin 1024) : k0_pay5 (F := Ideal) X (ix2 0 q) = ∏ r ∈ range 4096, cell X q r := by
  have h : k0_pay5 (F := Ideal) X = halve (halve (halve (halve (halve (halve (halve (halve (halve (halve (halve (halve (X) slices_S4096x1024_o0_0_S2048x1024 slices_S4096x1024_o2048_0_S2048x1024) slices_S2048x1024_o0_0_S1024x1024 slices_S2048x1024_o1024_0_S1024x1024) slices_S1024x1024_o0_0_S512x1024 slices_S1024x1024_o512_0_S512x1024) slices_S512x1024_o0_0_S256x1024 slices_S512x1024_o256_0_S256x1024) slices_S256x1024_o0_0_S128x1024 slices_S256x1024_o128_0_S128x1024) slices_S128x1024_o0_0_S64x1024 slices_S128x1024_o64_0_S64x1024) slices_S64x1024_o0_0_S32x1024 slices_S64x1024_o32_0_S32x1024) slices_S32x1024_o0_0_S16x1024 slices_S32x1024_o16_0_S16x1024) slices_S16x1024_o0_0_S8x1024 slices_S16x1024_o8_0_S8x1024) slices_S8x1024_o0_0_S4x1024 slices_S8x1024_o4_0_S4x1024) slices_S4x1024_o0_0_S2x1024 slices_S4x1024_o2_0_S2x1024) slices_S2x1024_o0_0_S1x1024 slices_S2x1024_o1_0_S1x1024 := by
    unfold k0_pay5; rw [shapeCast_self X]; exact shapeCast_self _ shapeCasts_S1x1024_S1x1024
  refine (congrFun h (ix2 0 q)).trans ((colProd_one _ q).symm.trans ?_)
  iterate 12 rw [colProd_halve _ _ _ _ (by norm_num)]
  rfl

end Cert.PrefixProof

end
-- ==== Proof.Prefix.lean ====
/-
# A device's result, column by column

The devices' arguments are blocks of 4096 rows of one array. Then the product of the totals before device `c` is the
product of the column over the rows before device `c`'s, and the device's result holds at each of its rows the product
of the column over all rows of the array up to that one: block by block of 512 rows, the row carried into each being
the product over all rows before it.
-/
module

public import proofs.«01_k».proof.Proof.Scan

@[expose] public section

noncomputable section

namespace Cert.PrefixProof

open Cert.KernelIdeal Cert.KernelIdeal.Gen
open Idealize.ShloMosaic
open Idealize.ShloMosaic.ValueIdx (ix2 ix3 eq_ix2 eq_ix3)
open Finset (range Ico)

/-- The product of `a` over the rows from `i` and before `j`. -/
def upTo (a : ℕ → EReal) (i j : ℕ) : EReal := ∏ r ∈ Ico i j, a r

theorem upTo_glue (a : ℕ → EReal) {i j k : ℕ} (h : i ≤ j) (h' : j ≤ k) : upTo a i j * upTo a j k = upTo a i k :=
  Finset.prod_Ico_consecutive a h h'

/-- A product over the first `n` rows from row `o` on. -/
theorem upTo_from (a b : ℕ → EReal) (o n : ℕ) (h : ∀ r, r < n → b r = a (o + r)) : ∏ r ∈ range n, b r = upTo a o (o + n) := by
  unfold upTo
  rw [Finset.prod_Ico_eq_prod_range, Nat.add_sub_cancel_left]
  exact Finset.prod_congr rfl fun r hr => h r (Finset.mem_range.mp hr)

variable {X : Dev nD → Rows 4096} {q : Fin 1024} {a : ℕ → EReal}

/-- The devices' rows are the blocks of 4096 of the column `a`. -/
def Cut (X : Dev nD → Rows 4096) (q : Fin 1024) (a : ℕ → EReal) : Prop :=
  ∀ (c : Dev nD) (r : ℕ), r < 4096 → cell (X c) q r = a (4096 * c.val + r)

/-- The devices' totals. -/
abbrev tots (X : Dev nD → Rows 4096) : Dev nD → Rows 1 := fun c => k0_pay5 (F := Ideal) (X c)

theorem tots_eq (hX : Cut X q a) (c : Dev nD) : tots X c (ix2 0 q) = upTo a (4096 * c.val) (4096 * c.val + 4096) :=
  (total_row (X c) q).trans (upTo_from a _ _ _ (hX c))

theorem gate_apply (c j : Dev nD) (t : Rows 1) (q : Fin 1024) :
    gate (F := Ideal) c j t (ix2 0 q) = if j < c then t (ix2 0 q) else 1 := by
  unfold gate
  split
  · rfl
  · exact Ideal.ofBits_one_f32

/-- Through the gate of device `j`: the totals up to it, of the devices before `c`. -/
theorem gate_step (hX : Cut X q a) (c j : Dev nD) {v : EReal} (hv : v = upTo a 0 (4096 * min j.val c.val)) :
    v * gate (F := Ideal) c j (tots X j) (ix2 0 q) = upTo a 0 (4096 * min (j.val + 1) c.val) := by
  rw [gate_apply, tots_eq hX, hv]
  by_cases h : j < c
  · have h' : j.val < c.val := h
    rw [if_pos h, Nat.min_eq_left (by omega), Nat.min_eq_left (by omega), upTo_glue a (Nat.zero_le _) (Nat.le_add_right _ _)]; rfl
  · have h' : ¬ j.val < c.val := h
    rw [if_neg h, mul_one, Nat.min_eq_right (by omega), Nat.min_eq_right (by omega)]

/-- The product of the totals before device `c`. -/
theorem pref_eq (hX : Cut X q a) (c : Dev nD) : prefRow (F := Ideal) (tots X) c (ix2 0 q) = upTo a 0 (4096 * c.val) := by
  have h := gate_step hX c 6 (gate_step hX c 5 (gate_step hX c 4 (gate_step hX c 3 (gate_step hX c 2 (gate_step hX c 1
    (gate_step hX c 0 (v := onesRow (F := Ideal) (ix2 0 q)) (Ideal.ofBits_one_f32.trans Finset.prod_empty.symm)))))))
  refine Eq.trans h ?_
  have hc : c.val < 8 := c.isLt
  rw [Nat.min_eq_right (show c.val ≤ (6 : Dev nD).val + 1 by show c.val ≤ 7; omega)]

theorem cell_block (X : Rows 4096) (q : Fin 1024) {k r : ℕ} (hk : k < 8) (hr : r < 512) :
    cell (blockOf X k) q r = cell X q (512 * k + r) := by
  rw [cell_lt _ q hr, cell_lt X q (by omega : 512 * k + r < 4096)]
  have e : (512 * k + r) % 4096 = 512 * k + r := Nat.mod_eq_of_lt (by omega)
  show X (ix2 ⟨(512 * k + r) % 4096, _⟩ q) = _
  congr 2
  exact Fin.ext e

/-- Block `k` of the result, at its row `r`. -/
theorem blk_eq (hX : Cut X q a) (c : Dev nD) : ∀ k, k < 8 → ∀ r, r < 512 →
    cell (blk (tots X) c (X c) k) q r = upTo a 0 (4096 * c.val + 512 * k + r + 1)
  | 0, _, r, hr => by
    show cell (headTimes (tots X) c (k0_pay8 (k0_pay6 (blockOf (X c) 0)) (k0_pay7 (blockOf (X c) 0)))) q r = _
    rw [head_scan]
    unfold headTimes
    rw [cell_mul, cell_scanned _ q hr, cell_spread _ q hr, pref_eq hX, mul_comm,
      upTo_from a _ (4096 * c.val) (r + 1) fun i hi => ?_, upTo_glue a (Nat.zero_le _) (Nat.le_add_right _ _)]
    · rfl
    · rw [cell_block _ q (by omega) (by omega), hX c _ (by omega)]
      congr 1; omega
  | k + 1, hk, r, hr => by
    show cell (k0_pay4 (F := Ideal) (k0_pay3 (blk (tots X) c (X c) k)) (blockOf (X c) (k + 1))) q r = _
    rw [next_scan, cell_mul, cell_scanned _ q hr, cell_spread _ q hr, carried_row, blk_eq hX c k (by omega) 511 (by omega), mul_comm,
      upTo_from a _ (4096 * c.val + 512 * (k + 1)) (r + 1) fun i hi => ?_,
      show 4096 * c.val + 512 * k + 511 + 1 = 4096 * c.val + 512 * (k + 1) by omega, upTo_glue a (Nat.zero_le _) (Nat.le_add_right _ _)]
    · rfl
    · rw [cell_block _ q hk (by omega), hX c _ (by omega), Nat.add_assoc]

/-- The device's result at its row `r`: the product over the rows of the whole column up to it. -/
theorem out_eq (hX : Cut X q a) (c : Dev nD) {r : ℕ} (hr : r < 4096) :
    outOf (F := Ideal) (tots X) c (X c) (ix2 ⟨r, hr⟩ q) = upTo a 0 (4096 * c.val + r + 1) := by
  have h : r % 512 < 512 := Nat.mod_lt _ (by decide)
  have e := blk_eq hX c (r / 512) (by omega) (r % 512) h
  rw [cell_lt _ q h] at e
  refine Eq.trans e ?_
  congr 2
  omega

end Cert.PrefixProof

end
-- ==== Proof.Reference.lean ====
/-
# The reference's loop

The reference reads the array row by row: it multiplies the row carried by the row read, writes the product into the
result and carries it on. After `k` trips the carried row is the product of the first `k` rows and each of the
result's first `k` rows is the product of the rows up to it.
-/
module

public import proofs.«01_k».proof.Proof.Prefix
public import proofs.«01_k».proof.Proof.Gen.ReferenceIdeal.Run
public import Idealize.ShloMosaic.Lib.Pointwise.ShapeOpsCore

@[expose] public section

noncomputable section

namespace Cert.PrefixProof

open Cert.ReferenceIdeal Cert.ReferenceIdeal.Gen Cert.ReferenceIdeal.Value
open Idealize.ShloMosaic hiding ix1 ix2
open Idealize.ShloMosaic.StableHlo Idealize.ShloMosaic.TcCoe
open Idealize.ShloMosaic.ValueIdx (ix1 ix2)

/-! ## One row read, one row written -/

theorem word_toInt {k : ℕ} (hk : k < 32768) : (Scf.iv 0#32 1#32 k).toInt = k := by
  have h : (Scf.iv 0#32 1#32 k).toNat = k := by
    rw [show Scf.iv 0#32 1#32 k = BitVec.ofNat 32 k by simp [Scf.iv], BitVec.toNat_ofNat]
    omega
  rw [BitVec.toInt_eq_toNat_of_lt (by omega), h]

section Row
variable {st : Fin 2 → Int} {k : ℕ} (h0 : st 0 = k) (h1 : st 1 = 0) (hk : k < 32768) (A : Rows 32768) (q : Fin 1024)
include h0 h1 hk

theorem start_row (h : S1x1024.rank = S32768x1024.rank) : Host.clampedStart S32768x1024 S1x1024 h st 0 = k :=
  Host.clampedStart_of_le h st 0 k h0 hk

theorem start_col (h : S1x1024.rank = S32768x1024.rank) : Host.clampedStart S32768x1024 S1x1024 h st 1 = 0 :=
  Host.clampedStart_of_le h st 1 0 h1 (le_refl 1024)

theorem slice_row (h : S32768x1024.Slices (fun _ => 0) S1x1024) :
    Host.dynamicSlice S1x1024 A st h (ix2 0 q) = cell A q k := by
  rw [Host.dynamicSlice_apply, cell_lt A q hk]
  refine congrArg A (funext fun b => Fin.ext ?_)
  match b with
  | ⟨0, _⟩ => exact (Nat.add_zero _).trans (start_row h0 h1 hk h.1)
  | ⟨1, _⟩ => exact (congrArg (· + q.val) (start_col h0 h1 hk h.1)).trans (Nat.zero_add _)

theorem update_row (u : Rows 1) (h : S32768x1024.Slices (fun _ => 0) S1x1024) {r : ℕ} (hr : r < 32768) :
    cell (n := 32768) (Host.dynamicUpdateSlice A u st h) q r = if r = k then u (ix2 0 q) else cell A q r := by
  rw [cell_lt _ q hr, Host.dynamicUpdateSlice_apply]
  have s0 := start_row h0 h1 hk h.1
  have s1 := start_col h0 h1 hk h.1
  by_cases e : r = k
  · rw [if_pos e, dif_pos fun b => by
      match b with
      | ⟨0, _⟩ => exact ⟨le_of_eq (s0.trans e.symm), lt_of_eq_of_lt (e.trans s0.symm) (Nat.lt_succ_self _)⟩
      | ⟨1, _⟩ => exact ⟨le_of_eq_of_le s1 (Nat.zero_le _), lt_of_lt_of_eq q.isLt ((Nat.zero_add _).symm.trans (congrArg (· + 1024) s1.symm))⟩]
    refine congrArg u (funext fun b => Fin.ext ?_)
    match b with
    | ⟨0, _⟩ => exact (congrArg (r - ·) s0).trans (by show r - k = 0; omega)
    | ⟨1, _⟩ => exact congrArg (q.val - ·) s1
  · rw [if_neg e, dif_neg fun hin => e (by
      have h2 := hin 0
      have h3 : Host.clampedStart S32768x1024 S1x1024 h.1 st 0 ≤ r ∧ r < Host.clampedStart S32768x1024 S1x1024 h.1 st 0 + 1 := h2
      omega), cell_lt A q hr]

end Row

/-! ## The trips -/

variable (m : (ℓ : Loc nD τ sig) → Buf (Elt Ideal) ℓ) (c : Dev nD)

/-- The buffers before trip `k`. -/
abbrev before (k : ℕ) : Valuation τ sig (Elt Ideal) := STEP^[k] (entryContents preI m c)

/-- The array given. -/
abbrev given : Rows 32768 := m ((c.tc : Thread nD τ).loc main_arg0)

theorem before_succ (k : ℕ) : before m c (k + 1) = STEP (before m c k) := Function.iterate_succ_apply' _ _ _

theorem before_counter (k : ℕ) : before m c k (Proc.devRef .tc main_v2_1) = fun _ => Scf.iv 0#32 1#32 k :=
  (atK_agree m c k main_v2_1 (by decide)).symm.trans (atK_ctr m c k)

theorem before_array : ∀ k, before m c k (Proc.devRef .tc main_v2_0) = given m c
  | 0 => by
    show entryContents preI m c _ = _
    simp only [entryContents, afterL_cons, afterL_nil]
    after_results
    rfl
  | k + 1 => by rw [before_succ, STEP_main_v2_0, before_array k]

/-- The row carried into trip `k`, and the result so far. -/
abbrev carried (k : ℕ) : FVec Ideal S1024 .f32 := before m c k (Proc.devRef .tc main_v2_2)
abbrev result (k : ℕ) : Rows 32768 := before m c k (Proc.devRef .tc main_v2_3)

theorem carried_zero (q : Fin 1024) : carried m c 0 (ix1 q) = 1 := by
  have h : carried m c 0 = broadcastInDim S1024 ![] bcast_S_S1024 (constant (F := Ideal) S_ .f32 0x3F800000#32) := by
    show entryContents preI m c _ = _
    simp only [entryContents, afterL_cons, afterL_nil]
    after_results
    rfl
  rw [h]
  exact Ideal.ofBits_one_f32

theorem product_row {k : ℕ} (hk : k < 32768) (q : Fin 1024) :
    (res_main_while0b_v4 (before m c k) : FVec Ideal S1024 .f32) (ix1 q) = carried m c k (ix1 q) * cell (given m c) q k := by
  unfold res_main_while0b_v4
  rw [before_counter, before_array, ValueIdx.mulf_apply]
  refine congrArg (carried m c k (ix1 q) * ·) ?_
  refine (ValueIdx.shapeCast_1a_a_apply _ _ _).trans (slice_row (word_toInt hk) ?_ hk _ q _)
  rfl

theorem carried_succ {k : ℕ} (hk : k < 32768) (q : Fin 1024) : carried m c (k + 1) (ix1 q) = carried m c k (ix1 q) * cell (given m c) q k := by
  have h : carried m c (k + 1) = res_main_while0b_v4 (before m c k) := by
    show before m c (k + 1) _ = _
    rw [before_succ, STEP_main_v2_2]; rfl
  rw [h, product_row m c hk]

theorem result_succ {k : ℕ} (hk : k < 32768) (q : Fin 1024) {r : ℕ} (hr : r < 32768) :
    cell (result m c (k + 1)) q r = if r = k then carried m c (k + 1) (ix1 q) else cell (result m c k) q r := by
  have h : result m c (k + 1) = step_main_v2_3 (before m c k) := by
    show before m c (k + 1) _ = _
    rw [before_succ, STEP_main_v2_3]
  have e : carried m c (k + 1) (ix1 q) = (res_main_while0b_v4 (before m c k) : FVec Ideal S1024 .f32) (ix1 q) :=
    (carried_succ m c hk q).trans (product_row m c hk q).symm
  rw [h, e]
  unfold step_main_v2_3
  rw [before_counter]
  refine (update_row (word_toInt hk) rfl hk _ q _ _ hr).trans ?_
  congr 1
  refine broadcastInDim_apply _ _ _ _ (ix1 q) fun b => ?_
  match b with
  | ⟨0, _⟩ => rfl

theorem carried_eq (q : Fin 1024) : ∀ k, k ≤ 32768 → carried m c k (ix1 q) = upTo (cell (given m c) q) 0 k
  | 0, _ => (carried_zero m c q).trans Finset.prod_empty.symm
  | k + 1, hk => by
    rw [carried_succ m c hk, carried_eq q k (by omega)]
    exact (Finset.prod_Ico_succ_top (Nat.zero_le k) _).symm

theorem result_eq (q : Fin 1024) : ∀ k, k ≤ 32768 → ∀ r, r < k → cell (result m c k) q r = upTo (cell (given m c) q) 0 (r + 1)
  | 0, _, _, hr => absurd hr (Nat.not_lt_zero _)
  | k + 1, hk, r, hr => by
    rw [result_succ m c hk q (by omega)]
    by_cases e : r = k
    · rw [if_pos e, carried_eq m c q (k + 1) hk, e]
    · rw [if_neg e, result_eq q k (by omega) r (by omega)]

end Cert.PrefixProof

end
-- ==== Proof.Equation.lean ====
/-
# The devices' results are the blocks of the running product

If the devices are given the blocks of 4096 rows of an array, they end with the blocks of the array that holds at each
row the product of the column's rows up to it.
-/
module

public import Idealize.ShloMosaic.Lib.Layout
public import proofs.«01_k».proof.Proof.Prefix

@[expose] public section

noncomputable section

namespace Cert.PrefixProof

open Cert.KernelIdeal Cert.KernelIdeal.Gen
open Idealize.ShloMosaic
open Idealize.ShloMosaic.ValueIdx (ix2 ix3 eq_ix2 eq_ix3)
open Finset (range Ico)

/-- Row `r` of block `c` is row `4096 c + r` of the whole. -/
theorem cell_of_block (A : Rows 32768) (c : Fin 8) (q : Fin 1024) {r : ℕ} (hr : r < 4096) :
    Layout.block ⟨2, ![4096, 1024]⟩ ⟨2, ![32768, 1024]⟩ 0 8 c A (by decide) (ix2 ⟨r, hr⟩ q) = cell A q (4096 * c.val + r) := by
  have hc := c.isLt
  rw [cell_lt A q (by omega : 4096 * c.val + r < 32768), Layout.block_apply]
  refine congrArg A (funext fun b => Fin.ext ?_)
  match b with
  | ⟨0, _⟩ => show c.val * 4096 + r = 4096 * c.val + r; omega
  | ⟨1, _⟩ => rfl

theorem cut_of_blocks {A : Rows 32768} {X : Dev nD → Rows 4096}
    (hX : ∀ c : Dev nD, X c = Layout.block ⟨2, ![4096, 1024]⟩ ⟨2, ![32768, 1024]⟩ 0 8 c A) (q : Fin 1024) : Cut X q (cell A q) := fun c r hr => by
  rw [cell_lt (X c) q hr, hX c]
  exact cell_of_block A c q hr

/-- The equation: block `c` of the running product is what device `c` computes. -/
theorem out_block {A R : Rows 32768} {X : Dev nD → Rows 4096}
    (hX : ∀ c : Dev nD, X c = Layout.block ⟨2, ![4096, 1024]⟩ ⟨2, ![32768, 1024]⟩ 0 8 c A)
    (hR : ∀ (q : Fin 1024) (r : ℕ), r < 32768 → cell R q r = upTo (cell A q) 0 (r + 1)) (c : Dev nD) :
    outOf (F := Ideal) (tots X) c (X c) = Layout.block ⟨2, ![4096, 1024]⟩ ⟨2, ![32768, 1024]⟩ 0 8 c R := by
  funext i
  have hi : (i 0).val < 4096 := (i 0).isLt
  have hc : c.val < 8 := c.isLt
  rw [eq_ix2 i]
  exact (out_eq (cut_of_blocks hX (i 1)) c hi).trans ((cell_of_block R c (i 1) hi).trans (hR (i 1) _ (by omega))).symm

end Cert.PrefixProof

end
-- ==== Proof.lean ====
/-
# The claims

The kernel at the bits and the kernel at the extended reals have the same text, so the one run of the program over any
floats gives both frames. The value: given the blocks of an array, the devices end with the blocks of the array the
reference's loop makes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Reference
public import proofs.«01_k».proof.Proof.Equation

@[expose] public section

noncomputable section

namespace Cert.Proof

open Idealize.ShloMosaic Idealize.SL.Sem Cert.PrefixProof

/-- The two programs' kernels are one. -/
theorem same_kernels : (Cert.Kernel.defs₀ (F := Bits)) = Cert.KernelIdeal.defs₀ (F := Bits) := by
  refine congrArg Defs.onTc (funext fun l => ?_)
  fin_cases l
  rfl

/-- So their tables are. -/
theorem same_defs : (Cert.Kernel.defs (F := Bits)) = Cert.KernelIdeal.defs (F := Bits) := congrArg (Pipeline.defs _) same_kernels

/-- The kernel's frame: the run at the bits. -/
theorem frame_kernel : Cert.quiescent_Kernel := by
  intro m ρ _
  rw [same_defs]
  exact (θ_run Cert.KernelIdeal.defs _ _).mono (fun _ h => ⟨fun c => (h.1 c).2, h.2⟩) (run_main (F := Bits) m ρ)

/-- The idealized kernel's frame: the run at the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference's frame: its run; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The value: the reference's result is the running product, of which each device holds its block. -/
theorem value : Cert.algebraic_KernelIdeal_ReferenceIdeal := fun m ρ m' ρ' _ hin =>
  ⟨result m' 0 32768,
    (θ_run Cert.KernelIdeal.defs _ _).mono
      (fun _ h c => ⟨(h.1 c).1.trans (out_block (X := argOf m ρ) (fun d => (argOf_eq m ρ d).trans (hin d))
        (fun q r hr => result_eq m' 0 q 32768 (le_refl _) r hr) c), (h.1 c).2⟩) (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, value⟩

end Cert.Proof

end
